-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v359) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S500000x100 : Shape := ⟨2, ![500000, 100]⟩
abbrev S500000 : Shape := ⟨1, ![500000]⟩
abbrev S2x15 : Shape := ⟨2, ![2, 15]⟩
abbrev S125x1x4000 : Shape := ⟨3, ![125, 1, 4000]⟩
abbrev S3x15 : Shape := ⟨2, ![3, 15]⟩
abbrev S1x1 : Shape := ⟨2, ![1, 1]⟩
abbrev S4000x100 : Shape := ⟨2, ![4000, 100]⟩
abbrev S1x1x4000 : Shape := ⟨3, ![1, 1, 4000]⟩
abbrev S4000 : Shape := ⟨1, ![4000]⟩
abbrev S4000x1 : Shape := ⟨2, ![4000, 1]⟩
abbrev S100x1 : Shape := ⟨2, ![100, 1]⟩
abbrev S1x15 : Shape := ⟨2, ![1, 15]⟩
abbrev S4000x15 : Shape := ⟨2, ![4000, 15]⟩
abbrev S15 : Shape := ⟨1, ![15]⟩
abbrev S1x1x15 : Shape := ⟨3, ![1, 1, 15]⟩
abbrev S1 : Shape := ⟨1, ![1]⟩
abbrev S1x1x1 : Shape := ⟨3, ![1, 1, 1]⟩

abbrev nBuf : Space → Nat
  | .hbm => 8
  | .vmem => 7
  | .smem => 0
  | _ => 0

abbrev bufTy : (tb : Table) → Fin (tcTables nBuf tb) → BufTy
  | .hbm, ⟨0, _⟩ => ⟨S500000x100, .f32⟩
  | .hbm, ⟨1, _⟩ => ⟨S500000, .i32⟩
  | .hbm, ⟨2, _⟩ => ⟨S2x15, .f32⟩
  | .hbm, ⟨3, _⟩ => ⟨S500000, .f32⟩
  | .hbm, ⟨4, _⟩ => ⟨S125x1x4000, .f32⟩
  | .hbm, ⟨5, _⟩ => ⟨S3x15, .f32⟩
  | .hbm, ⟨6, _⟩ => ⟨S1x1, .f32⟩
  | .hbm, ⟨7, _⟩ => ⟨S1, .f32⟩
  | .local _ .vmem, ⟨0, _⟩ => ⟨S4000x100, .f32⟩
  | .local _ .vmem, ⟨1, _⟩ => ⟨S4000x100, .f32⟩
  | .local _ .vmem, ⟨2, _⟩ => ⟨S1x1x4000, .f32⟩
  | .local _ .vmem, ⟨3, _⟩ => ⟨S1x1x4000, .f32⟩
  | .local _ .vmem, ⟨4, _⟩ => ⟨S2x15, .f32⟩
  | .local _ .vmem, ⟨5, _⟩ => ⟨S3x15, .f32⟩
  | .local _ .vmem, ⟨6, _⟩ => ⟨S1x1, .f32⟩
  | _, _ => ⟨S500000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![125], ![false]⟩

def k0_cond2 (i : grid0.Coords) : BitVec 1 :=
  let arg0 : BitVec 32 := BitVec.ofNat 32 (i 0).val
  let c124_i32 : BitVec 32 := 124#32
  let v57 : BitVec 1 := Scalar.cmpi .eq arg0 c124_i32
  let v58 : BitVec 32 := Scalar.extui v57
  let c0_i32_26 : BitVec 32 := 0#32
  let v59 : BitVec 1 := Scalar.cmpi .ne v58 c0_i32_26
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x15 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x15 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S500000x100 : Shape := ⟨2, ![500000, 100]⟩
abbrev S500000 : Shape := ⟨1, ![500000]⟩
abbrev S_ : Shape := ⟨0, ![]⟩
abbrev S500000x1 : Shape := ⟨2, ![500000, 1]⟩
abbrev S1 : Shape := ⟨1, ![1]⟩

abbrev nBuf : Space → Nat
  | .hbm => 521
  | .vmem => 0
  | .smem => 0
  | _ => 0

abbrev hbmTy0_0 (i : Nat) : BufTy := match i % 128 with
  | 0 => ⟨S500000x100, .f32⟩
  | 1 => ⟨S500000, .i32⟩
  | 2 => ⟨S_, .f32⟩
  | 3 => ⟨S500000, .f32⟩
  | 4 => ⟨S_, .f32⟩
  | 5 => ⟨S500000, .f32⟩
  | 6 => ⟨S500000, .f32⟩
  | 7 => ⟨S500000x1, .f32⟩
  | 8 => ⟨S500000x100, .f32⟩
  | 9 => ⟨S500000x100, .f32⟩
  | 10 => ⟨S500000x100, .f32⟩
  | 11 => ⟨S_, .f32⟩
  | 12 => ⟨S500000, .f32⟩
  | 13 => ⟨S500000x1, .f32⟩
  | 14 => ⟨S500000x100, .f32⟩
  | 15 => ⟨S500000x100, .f32⟩
  | 16 => ⟨S_, .f32⟩
  | 17 => ⟨S500000, .f32⟩
  | 18 => ⟨S500000x100, .i32⟩
  | 19 => ⟨S_, .f32⟩
  | 20 => ⟨S_, .i32⟩
  | 21 => ⟨S500000, .f32⟩
  | 22 => ⟨S500000, .i32⟩
  | 23 => ⟨S500000, .i1⟩
  | 24 => ⟨S_, .f32⟩
  | 25 => ⟨S1, .f32⟩
  | 26 => ⟨S_, .f32⟩
  | 27 => ⟨S500000, .f32⟩
  | 28 => ⟨S500000, .i1⟩
  | 29 => ⟨S_, .f32⟩
  | 30 => ⟨S500000, .f32⟩
  | 31 => ⟨S500000, .i1⟩
  | 32 => ⟨S500000, .i1⟩
  | 33 => ⟨S500000, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S500000, .f32⟩
  | 41 => ⟨S500000, .f32⟩
  | 42 => ⟨S_, .f32⟩
  | 43 => ⟨S_, .f32⟩
  | 44 => ⟨S_, .f32⟩
  | 45 => ⟨S500000, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S1, .f32⟩
  | 58 => ⟨S1, .f32⟩
  | 59 => ⟨S_, .f32⟩
  | 60 => ⟨S500000, .f32⟩
  | 61 => ⟨S500000, .i1⟩
  | 62 => ⟨S_, .f32⟩
  | 63 => ⟨S500000, .f32⟩
  | 64 => ⟨S500000, .i1⟩
  | 65 => ⟨S500000, .i1⟩
  | 66 => ⟨S500000, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S500000, .f32⟩
  | 74 => ⟨S500000, .f32⟩
  | 75 => ⟨S_, .f32⟩
  | 76 => ⟨S_, .f32⟩
  | 77 => ⟨S_, .f32⟩
  | 78 => ⟨S500000, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .i1⟩
  | 87 => ⟨S_, .f32⟩
  | 88 => ⟨S_, .f32⟩
  | 89 => ⟨S_, .f32⟩
  | 90 => ⟨S1, .f32⟩
  | 91 => ⟨S1, .f32⟩
  | 92 => ⟨S_, .f32⟩
  | 93 => ⟨S500000, .f32⟩
  | 94 => ⟨S500000, .i1⟩
  | 95 => ⟨S_, .f32⟩
  | 96 => ⟨S500000, .f32⟩
  | 97 => ⟨S500000, .i1⟩
  | 98 => ⟨S500000, .i1⟩
  | 99 => ⟨S500000, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S500000, .f32⟩
  | 107 => ⟨S500000, .f32⟩
  | 108 => ⟨S_, .f32⟩
  | 109 => ⟨S_, .f32⟩
  | 110 => ⟨S_, .f32⟩
  | 111 => ⟨S500000, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .i1⟩
  | 120 => ⟨S_, .f32⟩
  | 121 => ⟨S_, .f32⟩
  | 122 => ⟨S_, .f32⟩
  | 123 => ⟨S1, .f32⟩
  | 124 => ⟨S1, .f32⟩
  | 125 => ⟨S_, .f32⟩
  | 126 => ⟨S500000, .f32⟩
  | 127 => ⟨S500000, .i1⟩
  | _ => ⟨S500000x100, .f32⟩

abbrev hbmTy0_1 (i : Nat) : BufTy := match i % 128 with
  | 0 => ⟨S_, .f32⟩
  | 1 => ⟨S500000, .f32⟩
  | 2 => ⟨S500000, .i1⟩
  | 3 => ⟨S500000, .i1⟩
  | 4 => ⟨S500000, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S500000, .f32⟩
  | 12 => ⟨S500000, .f32⟩
  | 13 => ⟨S_, .f32⟩
  | 14 => ⟨S_, .f32⟩
  | 15 => ⟨S_, .f32⟩
  | 16 => ⟨S500000, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .i1⟩
  | 25 => ⟨S_, .f32⟩
  | 26 => ⟨S_, .f32⟩
  | 27 => ⟨S_, .f32⟩
  | 28 => ⟨S1, .f32⟩
  | 29 => ⟨S1, .f32⟩
  | 30 => ⟨S_, .f32⟩
  | 31 => ⟨S500000, .f32⟩
  | 32 => ⟨S500000, .i1⟩
  | 33 => ⟨S_, .f32⟩
  | 34 => ⟨S500000, .f32⟩
  | 35 => ⟨S500000, .i1⟩
  | 36 => ⟨S500000, .i1⟩
  | 37 => ⟨S500000, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S500000, .f32⟩
  | 45 => ⟨S500000, .f32⟩
  | 46 => ⟨S_, .f32⟩
  | 47 => ⟨S_, .f32⟩
  | 48 => ⟨S_, .f32⟩
  | 49 => ⟨S500000, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .i1⟩
  | 58 => ⟨S_, .f32⟩
  | 59 => ⟨S_, .f32⟩
  | 60 => ⟨S_, .f32⟩
  | 61 => ⟨S1, .f32⟩
  | 62 => ⟨S1, .f32⟩
  | 63 => ⟨S_, .f32⟩
  | 64 => ⟨S500000, .f32⟩
  | 65 => ⟨S500000, .i1⟩
  | 66 => ⟨S_, .f32⟩
  | 67 => ⟨S500000, .f32⟩
  | 68 => ⟨S500000, .i1⟩
  | 69 => ⟨S500000, .i1⟩
  | 70 => ⟨S500000, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S500000, .f32⟩
  | 78 => ⟨S500000, .f32⟩
  | 79 => ⟨S_, .f32⟩
  | 80 => ⟨S_, .f32⟩
  | 81 => ⟨S_, .f32⟩
  | 82 => ⟨S500000, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .i1⟩
  | 91 => ⟨S_, .f32⟩
  | 92 => ⟨S_, .f32⟩
  | 93 => ⟨S_, .f32⟩
  | 94 => ⟨S1, .f32⟩
  | 95 => ⟨S1, .f32⟩
  | 96 => ⟨S_, .f32⟩
  | 97 => ⟨S500000, .f32⟩
  | 98 => ⟨S500000, .i1⟩
  | 99 => ⟨S_, .f32⟩
  | 100 => ⟨S500000, .f32⟩
  | 101 => ⟨S500000, .i1⟩
  | 102 => ⟨S500000, .i1⟩
  | 103 => ⟨S500000, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S500000, .f32⟩
  | 111 => ⟨S500000, .f32⟩
  | 112 => ⟨S_, .f32⟩
  | 113 => ⟨S_, .f32⟩
  | 114 => ⟨S_, .f32⟩
  | 115 => ⟨S500000, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .i1⟩
  | 124 => ⟨S_, .f32⟩
  | 125 => ⟨S_, .f32⟩
  | 126 => ⟨S_, .f32⟩
  | 127 => ⟨S1, .f32⟩
  | _ => ⟨S500000x100, .f32⟩

abbrev hbmTy0_2 (i : Nat) : BufTy := match i % 128 with
  | 0 => ⟨S1, .f32⟩
  | 1 => ⟨S_, .f32⟩
  | 2 => ⟨S500000, .f32⟩
  | 3 => ⟨S500000, .i1⟩
  | 4 => ⟨S_, .f32⟩
  | 5 => ⟨S500000, .f32⟩
  | 6 => ⟨S500000, .i1⟩
  | 7 => ⟨S500000, .i1⟩
  | 8 => ⟨S500000, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S500000, .f32⟩
  | 16 => ⟨S500000, .f32⟩
  | 17 => ⟨S_, .f32⟩
  | 18 => ⟨S_, .f32⟩
  | 19 => ⟨S_, .f32⟩
  | 20 => ⟨S500000, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .i1⟩
  | 29 => ⟨S_, .f32⟩
  | 30 => ⟨S_, .f32⟩
  | 31 => ⟨S_, .f32⟩
  | 32 => ⟨S1, .f32⟩
  | 33 => ⟨S1, .f32⟩
  | 34 => ⟨S_, .f32⟩
  | 35 => ⟨S500000, .f32⟩
  | 36 => ⟨S500000, .i1⟩
  | 37 => ⟨S_, .f32⟩
  | 38 => ⟨S500000, .f32⟩
  | 39 => ⟨S500000, .i1⟩
  | 40 => ⟨S500000, .i1⟩
  | 41 => ⟨S500000, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S500000, .f32⟩
  | 49 => ⟨S500000, .f32⟩
  | 50 => ⟨S_, .f32⟩
  | 51 => ⟨S_, .f32⟩
  | 52 => ⟨S_, .f32⟩
  | 53 => ⟨S500000, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .i1⟩
  | 62 => ⟨S_, .f32⟩
  | 63 => ⟨S_, .f32⟩
  | 64 => ⟨S_, .f32⟩
  | 65 => ⟨S1, .f32⟩
  | 66 => ⟨S1, .f32⟩
  | 67 => ⟨S_, .f32⟩
  | 68 => ⟨S500000, .f32⟩
  | 69 => ⟨S500000, .i1⟩
  | 70 => ⟨S_, .f32⟩
  | 71 => ⟨S500000, .f32⟩
  | 72 => ⟨S500000, .i1⟩
  | 73 => ⟨S500000, .i1⟩
  | 74 => ⟨S500000, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S500000, .f32⟩
  | 82 => ⟨S500000, .f32⟩
  | 83 => ⟨S_, .f32⟩
  | 84 => ⟨S_, .f32⟩
  | 85 => ⟨S_, .f32⟩
  | 86 => ⟨S500000, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .i1⟩
  | 95 => ⟨S_, .f32⟩
  | 96 => ⟨S_, .f32⟩
  | 97 => ⟨S_, .f32⟩
  | 98 => ⟨S1, .f32⟩
  | 99 => ⟨S1, .f32⟩
  | 100 => ⟨S_, .f32⟩
  | 101 => ⟨S500000, .f32⟩
  | 102 => ⟨S500000, .i1⟩
  | 103 => ⟨S_, .f32⟩
  | 104 => ⟨S500000, .f32⟩
  | 105 => ⟨S500000, .i1⟩
  | 106 => ⟨S500000, .i1⟩
  | 107 => ⟨S500000, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S500000, .f32⟩
  | 115 => ⟨S500000, .f32⟩
  | 116 => ⟨S_, .f32⟩
  | 117 => ⟨S_, .f32⟩
  | 118 => ⟨S_, .f32⟩
  | 119 => ⟨S500000, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .i1⟩
  | _ => ⟨S500000x100, .f32⟩

abbrev hbmTy0_3 (i : Nat) : BufTy := match i % 128 with
  | 0 => ⟨S_, .f32⟩
  | 1 => ⟨S_, .f32⟩
  | 2 => ⟨S_, .f32⟩
  | 3 => ⟨S1, .f32⟩
  | 4 => ⟨S1, .f32⟩
  | 5 => ⟨S_, .f32⟩
  | 6 => ⟨S500000, .f32⟩
  | 7 => ⟨S500000, .i1⟩
  | 8 => ⟨S_, .f32⟩
  | 9 => ⟨S500000, .f32⟩
  | 10 => ⟨S500000, .i1⟩
  | 11 => ⟨S500000, .i1⟩
  | 12 => ⟨S500000, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S500000, .f32⟩
  | 20 => ⟨S500000, .f32⟩
  | 21 => ⟨S_, .f32⟩
  | 22 => ⟨S_, .f32⟩
  | 23 => ⟨S_, .f32⟩
  | 24 => ⟨S500000, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .i1⟩
  | 33 => ⟨S_, .f32⟩
  | 34 => ⟨S_, .f32⟩
  | 35 => ⟨S_, .f32⟩
  | 36 => ⟨S1, .f32⟩
  | 37 => ⟨S1, .f32⟩
  | 38 => ⟨S_, .f32⟩
  | 39 => ⟨S500000, .f32⟩
  | 40 => ⟨S500000, .i1⟩
  | 41 => ⟨S_, .f32⟩
  | 42 => ⟨S500000, .f32⟩
  | 43 => ⟨S500000, .i1⟩
  | 44 => ⟨S500000, .i1⟩
  | 45 => ⟨S500000, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S500000, .f32⟩
  | 53 => ⟨S500000, .f32⟩
  | 54 => ⟨S_, .f32⟩
  | 55 => ⟨S_, .f32⟩
  | 56 => ⟨S_, .f32⟩
  | 57 => ⟨S500000, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .i1⟩
  | 66 => ⟨S_, .f32⟩
  | 67 => ⟨S_, .f32⟩
  | 68 => ⟨S_, .f32⟩
  | 69 => ⟨S1, .f32⟩
  | 70 => ⟨S1, .f32⟩
  | 71 => ⟨S_, .f32⟩
  | 72 => ⟨S500000, .f32⟩
  | 73 => ⟨S500000, .i1⟩
  | 74 => ⟨S_, .f32⟩
  | 75 => ⟨S500000, .f32⟩
  | 76 => ⟨S500000, .i1⟩
  | 77 => ⟨S500000, .i1⟩
  | 78 => ⟨S500000, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S500000, .f32⟩
  | 86 => ⟨S500000, .f32⟩
  | 87 => ⟨S_, .f32⟩
  | 88 => ⟨S_, .f32⟩
  | 89 => ⟨S_, .f32⟩
  | 90 => ⟨S500000, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .i1⟩
  | 99 => ⟨S_, .f32⟩
  | 100 => ⟨S_, .f32⟩
  | 101 => ⟨S_, .f32⟩
  | 102 => ⟨S1, .f32⟩
  | 103 => ⟨S1, .f32⟩
  | 104 => ⟨S_, .f32⟩
  | 105 => ⟨S500000, .f32⟩
  | 106 => ⟨S500000, .i1⟩
  | 107 => ⟨S_, .f32⟩
  | 108 => ⟨S500000, .f32⟩
  | 109 => ⟨S500000, .i1⟩
  | 110 => ⟨S500000, .i1⟩
  | 111 => ⟨S500000, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S500000, .f32⟩
  | 119 => ⟨S500000, .f32⟩
  | 120 => ⟨S_, .f32⟩
  | 121 => ⟨S_, .f32⟩
  | 122 => ⟨S_, .f32⟩
  | 123 => ⟨S500000, .f32⟩
  | 124 => ⟨S_, .f32⟩
  | 125 => ⟨S_, .f32⟩
  | 126 => ⟨S_, .f32⟩
  | 127 => ⟨S_, .f32⟩
  | _ => ⟨S500000x100, .f32⟩

abbrev hbmTy0_4 (i : Nat) : BufTy := match i % 128 with
  | 0 => ⟨S_, .f32⟩
  | 1 => ⟨S_, .f32⟩
  | 2 => ⟨S_, .f32⟩
  | 3 => ⟨S_, .i1⟩
  | 4 => ⟨S_, .f32⟩
  | 5 => ⟨S_, .f32⟩
  | 6 => ⟨S_, .f32⟩
  | 7 => ⟨S1, .f32⟩
  | 8 => ⟨S1, .f32⟩
  | _ => ⟨S500000x100, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S500000x100, .f32⟩

abbrev bufTy : (tb : Table) → Fin (tcTables nBuf tb) → BufTy
  | .hbm, ⟨i, _⟩ => hbmTy i
  | _, _ => ⟨S500000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_call0_v0 : Ref sig .tc := ⟨.hbm, 18, rfl⟩
abbrev main_call0_cst : Ref sig .tc := ⟨.hbm, 19, rfl⟩
abbrev main_call0_c : Ref sig .tc := ⟨.hbm, 20, rfl⟩
abbrev main_call0_v1_0 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_cst_8 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_9 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_10 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_11 : Ref sig .tc := ⟨.hbm, 52, rfl⟩
abbrev main_v34 : Ref sig .tc := ⟨.hbm, 53, rfl⟩
abbrev main_cst_12 : Ref sig .tc := ⟨.hbm, 54, rfl⟩
abbrev main_call1_v0 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_13 : Ref sig .tc := ⟨.hbm, 59, rfl⟩
abbrev main_v38 : Ref sig .tc := ⟨.hbm, 60, rfl⟩
abbrev main_v39 : Ref sig .tc := ⟨.hbm, 61, rfl⟩
abbrev main_cst_14 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_15 : Ref sig .tc := ⟨.hbm, 67, rfl⟩
abbrev main_v44 : Ref sig .tc := ⟨.hbm, 68, rfl⟩
abbrev main_cst_16 : Ref sig .tc := ⟨.hbm, 69, rfl⟩
abbrev main_v45 : Ref sig .tc := ⟨.hbm, 70, rfl⟩
abbrev main_cst_17 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_18 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_19 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_20 : Ref sig .tc := ⟨.hbm, 85, rfl⟩
abbrev main_v57 : Ref sig .tc := ⟨.hbm, 86, rfl⟩
abbrev main_cst_21 : Ref sig .tc := ⟨.hbm, 87, rfl⟩
abbrev main_call2_v0 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_22 : Ref sig .tc := ⟨.hbm, 92, rfl⟩
abbrev main_v61 : Ref sig .tc := ⟨.hbm, 93, rfl⟩
abbrev main_v62 : Ref sig .tc := ⟨.hbm, 94, rfl⟩
abbrev main_cst_23 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_24 : Ref sig .tc := ⟨.hbm, 100, rfl⟩
abbrev main_v67 : Ref sig .tc := ⟨.hbm, 101, rfl⟩
abbrev main_cst_25 : Ref sig .tc := ⟨.hbm, 102, rfl⟩
abbrev main_v68 : Ref sig .tc := ⟨.hbm, 103, rfl⟩
abbrev main_cst_26 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_27 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_28 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_29 : Ref sig .tc := ⟨.hbm, 118, rfl⟩
abbrev main_v80 : Ref sig .tc := ⟨.hbm, 119, rfl⟩
abbrev main_cst_30 : Ref sig .tc := ⟨.hbm, 120, rfl⟩
abbrev main_call3_v0 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_31 : Ref sig .tc := ⟨.hbm, 125, rfl⟩
abbrev main_v84 : Ref sig .tc := ⟨.hbm, 126, rfl⟩
abbrev main_v85 : Ref sig .tc := ⟨.hbm, 127, rfl⟩
abbrev main_cst_32 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_cst_33 : Ref sig .tc := ⟨.hbm, 133, rfl⟩
abbrev main_v90 : Ref sig .tc := ⟨.hbm, 134, rfl⟩
abbrev main_cst_34 : Ref sig .tc := ⟨.hbm, 135, rfl⟩
abbrev main_v91 : Ref sig .tc := ⟨.hbm, 136, rfl⟩
abbrev main_cst_35 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_36 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_cst_37 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_cst_38 : Ref sig .tc := ⟨.hbm, 151, rfl⟩
abbrev main_v103 : Ref sig .tc := ⟨.hbm, 152, rfl⟩
abbrev main_cst_39 : Ref sig .tc := ⟨.hbm, 153, rfl⟩
abbrev main_call4_v0 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_cst_40 : Ref sig .tc := ⟨.hbm, 158, rfl⟩
abbrev main_v107 : Ref sig .tc := ⟨.hbm, 159, rfl⟩
abbrev main_v108 : Ref sig .tc := ⟨.hbm, 160, rfl⟩
abbrev main_cst_41 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_cst_42 : Ref sig .tc := ⟨.hbm, 166, rfl⟩
abbrev main_v113 : Ref sig .tc := ⟨.hbm, 167, rfl⟩
abbrev main_cst_43 : Ref sig .tc := ⟨.hbm, 168, rfl⟩
abbrev main_v114 : Ref sig .tc := ⟨.hbm, 169, rfl⟩
abbrev main_cst_44 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_cst_45 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_cst_46 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_cst_47 : Ref sig .tc := ⟨.hbm, 184, rfl⟩
abbrev main_v126 : Ref sig .tc := ⟨.hbm, 185, rfl⟩
abbrev main_cst_48 : Ref sig .tc := ⟨.hbm, 186, rfl⟩
abbrev main_call5_v0 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_cst_49 : Ref sig .tc := ⟨.hbm, 191, rfl⟩
abbrev main_v130 : Ref sig .tc := ⟨.hbm, 192, rfl⟩
abbrev main_v131 : Ref sig .tc := ⟨.hbm, 193, rfl⟩
abbrev main_cst_50 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_cst_51 : Ref sig .tc := ⟨.hbm, 199, rfl⟩
abbrev main_v136 : Ref sig .tc := ⟨.hbm, 200, rfl⟩
abbrev main_cst_52 : Ref sig .tc := ⟨.hbm, 201, rfl⟩
abbrev main_v137 : Ref sig .tc := ⟨.hbm, 202, rfl⟩
abbrev main_cst_53 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_cst_54 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_cst_55 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_cst_56 : Ref sig .tc := ⟨.hbm, 217, rfl⟩
abbrev main_v149 : Ref sig .tc := ⟨.hbm, 218, rfl⟩
abbrev main_cst_57 : Ref sig .tc := ⟨.hbm, 219, rfl⟩
abbrev main_call6_v0 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_cst_58 : Ref sig .tc := ⟨.hbm, 224, rfl⟩
abbrev main_v153 : Ref sig .tc := ⟨.hbm, 225, rfl⟩
abbrev main_v154 : Ref sig .tc := ⟨.hbm, 226, rfl⟩
abbrev main_cst_59 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_cst_60 : Ref sig .tc := ⟨.hbm, 232, rfl⟩
abbrev main_v159 : Ref sig .tc := ⟨.hbm, 233, rfl⟩
abbrev main_cst_61 : Ref sig .tc := ⟨.hbm, 234, rfl⟩
abbrev main_v160 : Ref sig .tc := ⟨.hbm, 235, rfl⟩
abbrev main_cst_62 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_cst_63 : Ref sig .tc := ⟨.hbm, 240, rfl⟩
abbrev main_v164 : Ref sig .tc := ⟨.hbm, 241, rfl⟩
abbrev main_v165 : Ref sig .tc := ⟨.hbm, 242, rfl⟩
abbrev main_v166 : Ref sig .tc := ⟨.hbm, 243, rfl⟩
abbrev main_cst_64 : Ref sig .tc := ⟨.hbm, 244, rfl⟩
abbrev main_v167 : Ref sig .tc := ⟨.hbm, 245, rfl⟩
abbrev main_v168 : Ref sig .tc := ⟨.hbm, 246, rfl⟩
abbrev main_v169 : Ref sig .tc := ⟨.hbm, 247, rfl⟩
abbrev main_v170 : Ref sig .tc := ⟨.hbm, 248, rfl⟩
abbrev main_v171 : Ref sig .tc := ⟨.hbm, 249, rfl⟩
abbrev main_cst_65 : Ref sig .tc := ⟨.hbm, 250, rfl⟩
abbrev main_v172 : Ref sig .tc := ⟨.hbm, 251, rfl⟩
abbrev main_cst_66 : Ref sig .tc := ⟨.hbm, 252, rfl⟩
abbrev main_call7_v0 : Ref sig .tc := ⟨.hbm, 253, rfl⟩
abbrev main_v173 : Ref sig .tc := ⟨.hbm, 254, rfl⟩
abbrev main_v174 : Ref sig .tc := ⟨.hbm, 255, rfl⟩
abbrev main_v175 : Ref sig .tc := ⟨.hbm, 256, rfl⟩
abbrev main_cst_67 : Ref sig .tc := ⟨.hbm, 257, rfl⟩
abbrev main_v176 : Ref sig .tc := ⟨.hbm, 258, rfl⟩
abbrev main_v177 : Ref sig .tc := ⟨.hbm, 259, rfl⟩
abbrev main_cst_68 : Ref sig .tc := ⟨.hbm, 260, rfl⟩
abbrev main_v178 : Ref sig .tc := ⟨.hbm, 261, rfl⟩
abbrev main_v179 : Ref sig .tc := ⟨.hbm, 262, rfl⟩
abbrev main_v180 : Ref sig .tc := ⟨.hbm, 263, rfl⟩
abbrev main_v181 : Ref sig .tc := ⟨.hbm, 264, rfl⟩
abbrev main_cst_69 : Ref sig .tc := ⟨.hbm, 265, rfl⟩
abbrev main_v182 : Ref sig .tc := ⟨.hbm, 266, rfl⟩
abbrev main_cst_70 : Ref sig .tc := ⟨.hbm, 267, rfl⟩
abbrev main_v183 : Ref sig .tc := ⟨.hbm, 268, rfl⟩
abbrev main_cst_71 : Ref sig .tc := ⟨.hbm, 269, rfl⟩
abbrev main_v184 : Ref sig .tc := ⟨.hbm, 270, rfl⟩
abbrev main_v185 : Ref sig .tc := ⟨.hbm, 271, rfl⟩
abbrev main_v186 : Ref sig .tc := ⟨.hbm, 272, rfl⟩
abbrev main_cst_72 : Ref sig .tc := ⟨.hbm, 273, rfl⟩
abbrev main_v187 : Ref sig .tc := ⟨.hbm, 274, rfl⟩
abbrev main_v188 : Ref sig .tc := ⟨.hbm, 275, rfl⟩
abbrev main_v189 : Ref sig .tc := ⟨.hbm, 276, rfl⟩
abbrev main_cst_73 : Ref sig .tc := ⟨.hbm, 277, rfl⟩
abbrev main_v190 : Ref sig .tc := ⟨.hbm, 278, rfl⟩
abbrev main_v191 : Ref sig .tc := ⟨.hbm, 279, rfl⟩
abbrev main_v192 : Ref sig .tc := ⟨.hbm, 280, rfl⟩
abbrev main_v193 : Ref sig .tc := ⟨.hbm, 281, rfl⟩
abbrev main_v194 : Ref sig .tc := ⟨.hbm, 282, rfl⟩
abbrev main_cst_74 : Ref sig .tc := ⟨.hbm, 283, rfl⟩
abbrev main_v195 : Ref sig .tc := ⟨.hbm, 284, rfl⟩
abbrev main_cst_75 : Ref sig .tc := ⟨.hbm, 285, rfl⟩
abbrev main_call8_v0 : Ref sig .tc := ⟨.hbm, 286, rfl⟩
abbrev main_v196 : Ref sig .tc := ⟨.hbm, 287, rfl⟩
abbrev main_v197 : Ref sig .tc := ⟨.hbm, 288, rfl⟩
abbrev main_v198 : Ref sig .tc := ⟨.hbm, 289, rfl⟩
abbrev main_cst_76 : Ref sig .tc := ⟨.hbm, 290, rfl⟩
abbrev main_v199 : Ref sig .tc := ⟨.hbm, 291, rfl⟩
abbrev main_v200 : Ref sig .tc := ⟨.hbm, 292, rfl⟩
abbrev main_cst_77 : Ref sig .tc := ⟨.hbm, 293, rfl⟩
abbrev main_v201 : Ref sig .tc := ⟨.hbm, 294, rfl⟩
abbrev main_v202 : Ref sig .tc := ⟨.hbm, 295, rfl⟩
abbrev main_v203 : Ref sig .tc := ⟨.hbm, 296, rfl⟩
abbrev main_v204 : Ref sig .tc := ⟨.hbm, 297, rfl⟩
abbrev main_cst_78 : Ref sig .tc := ⟨.hbm, 298, rfl⟩
abbrev main_v205 : Ref sig .tc := ⟨.hbm, 299, rfl⟩
abbrev main_cst_79 : Ref sig .tc := ⟨.hbm, 300, rfl⟩
abbrev main_v206 : Ref sig .tc := ⟨.hbm, 301, rfl⟩
abbrev main_cst_80 : Ref sig .tc := ⟨.hbm, 302, rfl⟩
abbrev main_v207 : Ref sig .tc := ⟨.hbm, 303, rfl⟩
abbrev main_v208 : Ref sig .tc := ⟨.hbm, 304, rfl⟩
abbrev main_v209 : Ref sig .tc := ⟨.hbm, 305, rfl⟩
abbrev main_cst_81 : Ref sig .tc := ⟨.hbm, 306, rfl⟩
abbrev main_v210 : Ref sig .tc := ⟨.hbm, 307, rfl⟩
abbrev main_v211 : Ref sig .tc := ⟨.hbm, 308, rfl⟩
abbrev main_v212 : Ref sig .tc := ⟨.hbm, 309, rfl⟩
abbrev main_cst_82 : Ref sig .tc := ⟨.hbm, 310, rfl⟩
abbrev main_v213 : Ref sig .tc := ⟨.hbm, 311, rfl⟩
abbrev main_v214 : Ref sig .tc := ⟨.hbm, 312, rfl⟩
abbrev main_v215 : Ref sig .tc := ⟨.hbm, 313, rfl⟩
abbrev main_v216 : Ref sig .tc := ⟨.hbm, 314, rfl⟩
abbrev main_v217 : Ref sig .tc := ⟨.hbm, 315, rfl⟩
abbrev main_cst_83 : Ref sig .tc := ⟨.hbm, 316, rfl⟩
abbrev main_v218 : Ref sig .tc := ⟨.hbm, 317, rfl⟩
abbrev main_cst_84 : Ref sig .tc := ⟨.hbm, 318, rfl⟩
abbrev main_call9_v0 : Ref sig .tc := ⟨.hbm, 319, rfl⟩
abbrev main_v219 : Ref sig .tc := ⟨.hbm, 320, rfl⟩
abbrev main_v220 : Ref sig .tc := ⟨.hbm, 321, rfl⟩
abbrev main_v221 : Ref sig .tc := ⟨.hbm, 322, rfl⟩
abbrev main_cst_85 : Ref sig .tc := ⟨.hbm, 323, rfl⟩
abbrev main_v222 : Ref sig .tc := ⟨.hbm, 324, rfl⟩
abbrev main_v223 : Ref sig .tc := ⟨.hbm, 325, rfl⟩
abbrev main_cst_86 : Ref sig .tc := ⟨.hbm, 326, rfl⟩
abbrev main_v224 : Ref sig .tc := ⟨.hbm, 327, rfl⟩
abbrev main_v225 : Ref sig .tc := ⟨.hbm, 328, rfl⟩
abbrev main_v226 : Ref sig .tc := ⟨.hbm, 329, rfl⟩
abbrev main_v227 : Ref sig .tc := ⟨.hbm, 330, rfl⟩
abbrev main_cst_87 : Ref sig .tc := ⟨.hbm, 331, rfl⟩
abbrev main_v228 : Ref sig .tc := ⟨.hbm, 332, rfl⟩
abbrev main_cst_88 : Ref sig .tc := ⟨.hbm, 333, rfl⟩
abbrev main_v229 : Ref sig .tc := ⟨.hbm, 334, rfl⟩
abbrev main_cst_89 : Ref sig .tc := ⟨.hbm, 335, rfl⟩
abbrev main_v230 : Ref sig .tc := ⟨.hbm, 336, rfl⟩
abbrev main_v231 : Ref sig .tc := ⟨.hbm, 337, rfl⟩
abbrev main_v232 : Ref sig .tc := ⟨.hbm, 338, rfl⟩
abbrev main_cst_90 : Ref sig .tc := ⟨.hbm, 339, rfl⟩
abbrev main_v233 : Ref sig .tc := ⟨.hbm, 340, rfl⟩
abbrev main_v234 : Ref sig .tc := ⟨.hbm, 341, rfl⟩
abbrev main_v235 : Ref sig .tc := ⟨.hbm, 342, rfl⟩
abbrev main_cst_91 : Ref sig .tc := ⟨.hbm, 343, rfl⟩
abbrev main_v236 : Ref sig .tc := ⟨.hbm, 344, rfl⟩
abbrev main_v237 : Ref sig .tc := ⟨.hbm, 345, rfl⟩
abbrev main_v238 : Ref sig .tc := ⟨.hbm, 346, rfl⟩
abbrev main_v239 : Ref sig .tc := ⟨.hbm, 347, rfl⟩
abbrev main_v240 : Ref sig .tc := ⟨.hbm, 348, rfl⟩
abbrev main_cst_92 : Ref sig .tc := ⟨.hbm, 349, rfl⟩
abbrev main_v241 : Ref sig .tc := ⟨.hbm, 350, rfl⟩
abbrev main_cst_93 : Ref sig .tc := ⟨.hbm, 351, rfl⟩
abbrev main_call10_v0 : Ref sig .tc := ⟨.hbm, 352, rfl⟩
abbrev main_v242 : Ref sig .tc := ⟨.hbm, 353, rfl⟩
abbrev main_v243 : Ref sig .tc := ⟨.hbm, 354, rfl⟩
abbrev main_v244 : Ref sig .tc := ⟨.hbm, 355, rfl⟩
abbrev main_cst_94 : Ref sig .tc := ⟨.hbm, 356, rfl⟩
abbrev main_v245 : Ref sig .tc := ⟨.hbm, 357, rfl⟩
abbrev main_v246 : Ref sig .tc := ⟨.hbm, 358, rfl⟩
abbrev main_cst_95 : Ref sig .tc := ⟨.hbm, 359, rfl⟩
abbrev main_v247 : Ref sig .tc := ⟨.hbm, 360, rfl⟩
abbrev main_v248 : Ref sig .tc := ⟨.hbm, 361, rfl⟩
abbrev main_v249 : Ref sig .tc := ⟨.hbm, 362, rfl⟩
abbrev main_v250 : Ref sig .tc := ⟨.hbm, 363, rfl⟩
abbrev main_cst_96 : Ref sig .tc := ⟨.hbm, 364, rfl⟩
abbrev main_v251 : Ref sig .tc := ⟨.hbm, 365, rfl⟩
abbrev main_cst_97 : Ref sig .tc := ⟨.hbm, 366, rfl⟩
abbrev main_v252 : Ref sig .tc := ⟨.hbm, 367, rfl⟩
abbrev main_cst_98 : Ref sig .tc := ⟨.hbm, 368, rfl⟩
abbrev main_v253 : Ref sig .tc := ⟨.hbm, 369, rfl⟩
abbrev main_v254 : Ref sig .tc := ⟨.hbm, 370, rfl⟩
abbrev main_v255 : Ref sig .tc := ⟨.hbm, 371, rfl⟩
abbrev main_cst_99 : Ref sig .tc := ⟨.hbm, 372, rfl⟩
abbrev main_v256 : Ref sig .tc := ⟨.hbm, 373, rfl⟩
abbrev main_v257 : Ref sig .tc := ⟨.hbm, 374, rfl⟩
abbrev main_v258 : Ref sig .tc := ⟨.hbm, 375, rfl⟩
abbrev main_cst_100 : Ref sig .tc := ⟨.hbm, 376, rfl⟩
abbrev main_v259 : Ref sig .tc := ⟨.hbm, 377, rfl⟩
abbrev main_v260 : Ref sig .tc := ⟨.hbm, 378, rfl⟩
abbrev main_v261 : Ref sig .tc := ⟨.hbm, 379, rfl⟩
abbrev main_v262 : Ref sig .tc := ⟨.hbm, 380, rfl⟩
abbrev main_v263 : Ref sig .tc := ⟨.hbm, 381, rfl⟩
abbrev main_cst_101 : Ref sig .tc := ⟨.hbm, 382, rfl⟩
abbrev main_v264 : Ref sig .tc := ⟨.hbm, 383, rfl⟩
abbrev main_cst_102 : Ref sig .tc := ⟨.hbm, 384, rfl⟩
abbrev main_call11_v0 : Ref sig .tc := ⟨.hbm, 385, rfl⟩
abbrev main_v265 : Ref sig .tc := ⟨.hbm, 386, rfl⟩
abbrev main_v266 : Ref sig .tc := ⟨.hbm, 387, rfl⟩
abbrev main_v267 : Ref sig .tc := ⟨.hbm, 388, rfl⟩
abbrev main_cst_103 : Ref sig .tc := ⟨.hbm, 389, rfl⟩
abbrev main_v268 : Ref sig .tc := ⟨.hbm, 390, rfl⟩
abbrev main_v269 : Ref sig .tc := ⟨.hbm, 391, rfl⟩
abbrev main_cst_104 : Ref sig .tc := ⟨.hbm, 392, rfl⟩
abbrev main_v270 : Ref sig .tc := ⟨.hbm, 393, rfl⟩
abbrev main_v271 : Ref sig .tc := ⟨.hbm, 394, rfl⟩
abbrev main_v272 : Ref sig .tc := ⟨.hbm, 395, rfl⟩
abbrev main_v273 : Ref sig .tc := ⟨.hbm, 396, rfl⟩
abbrev main_cst_105 : Ref sig .tc := ⟨.hbm, 397, rfl⟩
abbrev main_v274 : Ref sig .tc := ⟨.hbm, 398, rfl⟩
abbrev main_cst_106 : Ref sig .tc := ⟨.hbm, 399, rfl⟩
abbrev main_v275 : Ref sig .tc := ⟨.hbm, 400, rfl⟩
abbrev main_cst_107 : Ref sig .tc := ⟨.hbm, 401, rfl⟩
abbrev main_v276 : Ref sig .tc := ⟨.hbm, 402, rfl⟩
abbrev main_v277 : Ref sig .tc := ⟨.hbm, 403, rfl⟩
abbrev main_v278 : Ref sig .tc := ⟨.hbm, 404, rfl⟩
abbrev main_cst_108 : Ref sig .tc := ⟨.hbm, 405, rfl⟩
abbrev main_v279 : Ref sig .tc := ⟨.hbm, 406, rfl⟩
abbrev main_v280 : Ref sig .tc := ⟨.hbm, 407, rfl⟩
abbrev main_v281 : Ref sig .tc := ⟨.hbm, 408, rfl⟩
abbrev main_cst_109 : Ref sig .tc := ⟨.hbm, 409, rfl⟩
abbrev main_v282 : Ref sig .tc := ⟨.hbm, 410, rfl⟩
abbrev main_v283 : Ref sig .tc := ⟨.hbm, 411, rfl⟩
abbrev main_v284 : Ref sig .tc := ⟨.hbm, 412, rfl⟩
abbrev main_v285 : Ref sig .tc := ⟨.hbm, 413, rfl⟩
abbrev main_v286 : Ref sig .tc := ⟨.hbm, 414, rfl⟩
abbrev main_cst_110 : Ref sig .tc := ⟨.hbm, 415, rfl⟩
abbrev main_v287 : Ref sig .tc := ⟨.hbm, 416, rfl⟩
abbrev main_cst_111 : Ref sig .tc := ⟨.hbm, 417, rfl⟩
abbrev main_call12_v0 : Ref sig .tc := ⟨.hbm, 418, rfl⟩
abbrev main_v288 : Ref sig .tc := ⟨.hbm, 419, rfl⟩
abbrev main_v289 : Ref sig .tc := ⟨.hbm, 420, rfl⟩
abbrev main_v290 : Ref sig .tc := ⟨.hbm, 421, rfl⟩
abbrev main_cst_112 : Ref sig .tc := ⟨.hbm, 422, rfl⟩
abbrev main_v291 : Ref sig .tc := ⟨.hbm, 423, rfl⟩
abbrev main_v292 : Ref sig .tc := ⟨.hbm, 424, rfl⟩
abbrev main_cst_113 : Ref sig .tc := ⟨.hbm, 425, rfl⟩
abbrev main_v293 : Ref sig .tc := ⟨.hbm, 426, rfl⟩
abbrev main_v294 : Ref sig .tc := ⟨.hbm, 427, rfl⟩
abbrev main_v295 : Ref sig .tc := ⟨.hbm, 428, rfl⟩
abbrev main_v296 : Ref sig .tc := ⟨.hbm, 429, rfl⟩
abbrev main_cst_114 : Ref sig .tc := ⟨.hbm, 430, rfl⟩
abbrev main_v297 : Ref sig .tc := ⟨.hbm, 431, rfl⟩
abbrev main_cst_115 : Ref sig .tc := ⟨.hbm, 432, rfl⟩
abbrev main_v298 : Ref sig .tc := ⟨.hbm, 433, rfl⟩
abbrev main_cst_116 : Ref sig .tc := ⟨.hbm, 434, rfl⟩
abbrev main_v299 : Ref sig .tc := ⟨.hbm, 435, rfl⟩
abbrev main_v300 : Ref sig .tc := ⟨.hbm, 436, rfl⟩
abbrev main_v301 : Ref sig .tc := ⟨.hbm, 437, rfl⟩
abbrev main_cst_117 : Ref sig .tc := ⟨.hbm, 438, rfl⟩
abbrev main_v302 : Ref sig .tc := ⟨.hbm, 439, rfl⟩
abbrev main_v303 : Ref sig .tc := ⟨.hbm, 440, rfl⟩
abbrev main_v304 : Ref sig .tc := ⟨.hbm, 441, rfl⟩
abbrev main_cst_118 : Ref sig .tc := ⟨.hbm, 442, rfl⟩
abbrev main_v305 : Ref sig .tc := ⟨.hbm, 443, rfl⟩
abbrev main_v306 : Ref sig .tc := ⟨.hbm, 444, rfl⟩
abbrev main_v307 : Ref sig .tc := ⟨.hbm, 445, rfl⟩
abbrev main_v308 : Ref sig .tc := ⟨.hbm, 446, rfl⟩
abbrev main_v309 : Ref sig .tc := ⟨.hbm, 447, rfl⟩
abbrev main_cst_119 : Ref sig .tc := ⟨.hbm, 448, rfl⟩
abbrev main_v310 : Ref sig .tc := ⟨.hbm, 449, rfl⟩
abbrev main_cst_120 : Ref sig .tc := ⟨.hbm, 450, rfl⟩
abbrev main_call13_v0 : Ref sig .tc := ⟨.hbm, 451, rfl⟩
abbrev main_v311 : Ref sig .tc := ⟨.hbm, 452, rfl⟩
abbrev main_v312 : Ref sig .tc := ⟨.hbm, 453, rfl⟩
abbrev main_v313 : Ref sig .tc := ⟨.hbm, 454, rfl⟩
abbrev main_cst_121 : Ref sig .tc := ⟨.hbm, 455, rfl⟩
abbrev main_v314 : Ref sig .tc := ⟨.hbm, 456, rfl⟩
abbrev main_v315 : Ref sig .tc := ⟨.hbm, 457, rfl⟩
abbrev main_cst_122 : Ref sig .tc := ⟨.hbm, 458, rfl⟩
abbrev main_v316 : Ref sig .tc := ⟨.hbm, 459, rfl⟩
abbrev main_v317 : Ref sig .tc := ⟨.hbm, 460, rfl⟩
abbrev main_v318 : Ref sig .tc := ⟨.hbm, 461, rfl⟩
abbrev main_v319 : Ref sig .tc := ⟨.hbm, 462, rfl⟩
abbrev main_cst_123 : Ref sig .tc := ⟨.hbm, 463, rfl⟩
abbrev main_v320 : Ref sig .tc := ⟨.hbm, 464, rfl⟩
abbrev main_cst_124 : Ref sig .tc := ⟨.hbm, 465, rfl⟩
abbrev main_v321 : Ref sig .tc := ⟨.hbm, 466, rfl⟩
abbrev main_cst_125 : Ref sig .tc := ⟨.hbm, 467, rfl⟩
abbrev main_v322 : Ref sig .tc := ⟨.hbm, 468, rfl⟩
abbrev main_v323 : Ref sig .tc := ⟨.hbm, 469, rfl⟩
abbrev main_v324 : Ref sig .tc := ⟨.hbm, 470, rfl⟩
abbrev main_cst_126 : Ref sig .tc := ⟨.hbm, 471, rfl⟩
abbrev main_v325 : Ref sig .tc := ⟨.hbm, 472, rfl⟩
abbrev main_v326 : Ref sig .tc := ⟨.hbm, 473, rfl⟩
abbrev main_v327 : Ref sig .tc := ⟨.hbm, 474, rfl⟩
abbrev main_cst_127 : Ref sig .tc := ⟨.hbm, 475, rfl⟩
abbrev main_v328 : Ref sig .tc := ⟨.hbm, 476, rfl⟩
abbrev main_v329 : Ref sig .tc := ⟨.hbm, 477, rfl⟩
abbrev main_v330 : Ref sig .tc := ⟨.hbm, 478, rfl⟩
abbrev main_v331 : Ref sig .tc := ⟨.hbm, 479, rfl⟩
abbrev main_v332 : Ref sig .tc := ⟨.hbm, 480, rfl⟩
abbrev main_cst_128 : Ref sig .tc := ⟨.hbm, 481, rfl⟩
abbrev main_v333 : Ref sig .tc := ⟨.hbm, 482, rfl⟩
abbrev main_cst_129 : Ref sig .tc := ⟨.hbm, 483, rfl⟩
abbrev main_call14_v0 : Ref sig .tc := ⟨.hbm, 484, rfl⟩
abbrev main_v334 : Ref sig .tc := ⟨.hbm, 485, rfl⟩
abbrev main_v335 : Ref sig .tc := ⟨.hbm, 486, rfl⟩
abbrev main_v336 : Ref sig .tc := ⟨.hbm, 487, rfl⟩
abbrev main_cst_130 : Ref sig .tc := ⟨.hbm, 488, rfl⟩
abbrev main_v337 : Ref sig .tc := ⟨.hbm, 489, rfl⟩
abbrev main_v338 : Ref sig .tc := ⟨.hbm, 490, rfl⟩
abbrev main_cst_131 : Ref sig .tc := ⟨.hbm, 491, rfl⟩
abbrev main_v339 : Ref sig .tc := ⟨.hbm, 492, rfl⟩
abbrev main_v340 : Ref sig .tc := ⟨.hbm, 493, rfl⟩
abbrev main_v341 : Ref sig .tc := ⟨.hbm, 494, rfl⟩
abbrev main_v342 : Ref sig .tc := ⟨.hbm, 495, rfl⟩
abbrev main_cst_132 : Ref sig .tc := ⟨.hbm, 496, rfl⟩
abbrev main_v343 : Ref sig .tc := ⟨.hbm, 497, rfl⟩
abbrev main_cst_133 : Ref sig .tc := ⟨.hbm, 498, rfl⟩
abbrev main_v344 : Ref sig .tc := ⟨.hbm, 499, rfl⟩
abbrev main_cst_134 : Ref sig .tc := ⟨.hbm, 500, rfl⟩
abbrev main_v345 : Ref sig .tc := ⟨.hbm, 501, rfl⟩
abbrev main_v346 : Ref sig .tc := ⟨.hbm, 502, rfl⟩
abbrev main_v347 : Ref sig .tc := ⟨.hbm, 503, rfl⟩
abbrev main_cst_135 : Ref sig .tc := ⟨.hbm, 504, rfl⟩
abbrev main_v348 : Ref sig .tc := ⟨.hbm, 505, rfl⟩
abbrev main_v349 : Ref sig .tc := ⟨.hbm, 506, rfl⟩
abbrev main_v350 : Ref sig .tc := ⟨.hbm, 507, rfl⟩
abbrev main_cst_136 : Ref sig .tc := ⟨.hbm, 508, rfl⟩
abbrev main_v351 : Ref sig .tc := ⟨.hbm, 509, rfl⟩
abbrev main_v352 : Ref sig .tc := ⟨.hbm, 510, rfl⟩
abbrev main_v353 : Ref sig .tc := ⟨.hbm, 511, rfl⟩
abbrev main_v354 : Ref sig .tc := ⟨.hbm, 512, rfl⟩
abbrev main_v355 : Ref sig .tc := ⟨.hbm, 513, rfl⟩
abbrev main_cst_137 : Ref sig .tc := ⟨.hbm, 514, rfl⟩
abbrev main_v356 : Ref sig .tc := ⟨.hbm, 515, rfl⟩
abbrev main_cst_138 : Ref sig .tc := ⟨.hbm, 516, rfl⟩
abbrev main_call15_v0 : Ref sig .tc := ⟨.hbm, 517, rfl⟩
abbrev main_v357 : Ref sig .tc := ⟨.hbm, 518, rfl⟩
abbrev main_v358 : Ref sig .tc := ⟨.hbm, 519, rfl⟩
abbrev main_v359 : Ref sig .tc := ⟨.hbm, 520, rfl⟩

abbrev nD : Nat := 1
abbrev τ : Topo := Topo.v7x

variable {F : FTy → Type} [FloatOps F]
-- ==== Proof.Reference.Ssa.lean ====
/-  A straight line of operations in which every buffer is written at most once, before it is read. What the
    buffers hold after such a line satisfies every operation's equation at once. -/
module

public import Idealize.ShloMosaic.Lib.StableHlo.Run

@[expose] public section

noncomputable section

namespace Cert.Proof.Ssa

open Idealize.ShloMosaic Idealize.ShloMosaic.TcCoe Idealize.ShloMosaic.StableHlo

variable {τ : Topo} {sig : RefSig} {Val : EltTy → Type}

/-- The position of a buffer in its table: the order in which a printed function numbers its values. -/
def rank (b : DevRef τ sig) : ℕ := b.idx.val

/-- The operation writes only at position `n`, and what it writes depends only on buffers at earlier positions. -/
structure Step (op : HloOp τ sig Val) (n : ℕ) : Prop where
  writes : ∀ b ∈ op.writes, rank b = n
  reads : ∀ V V' : Valuation τ sig Val, (∀ b, rank b < n → V b = V' b) →
    ∀ b ∈ op.writes, op.result V b = op.result V' b

/-- The operations write positions `n`, `n + 1`, … in order, each from earlier ones. -/
def Steps : List (HloOp τ sig Val) → ℕ → Prop
  | [], _ => True
  | op :: ops, n => Step op n ∧ Steps ops (n + 1)

/-- Two such lines in a row are one. -/
theorem Steps.append : ∀ (l₁ : List (HloOp τ sig Val)) {l₂ : List (HloOp τ sig Val)} {n : ℕ},
    Steps l₁ n → Steps l₂ (n + l₁.length) → Steps (l₁ ++ l₂) n
  | [], _, _, _, h => by simpa using h
  | _ :: l, l₂, n, h, h' => ⟨h.1, Steps.append l h.2 (by
      rw [List.length_cons] at h'
      rwa [show n + 1 + l.length = n + (l.length + 1) by omega])⟩

/-- The contents `W` satisfy the operation's equation: running it again changes nothing it writes. -/
def Holds (W : Valuation τ sig Val) (op : HloOp τ sig Val) : Prop := ∀ b ∈ op.writes, op.result W b = W b

/-- The line writes nothing before position `n`. -/
theorem Steps.not_mem {b : DevRef τ sig} : ∀ {ops : List (HloOp τ sig Val)} {n : ℕ}, Steps ops n → rank b < n →
    ∀ op ∈ ops, b ∉ op.writes
  | op :: ops, n, h, hb, o, ho, hmem => by
    rcases List.mem_cons.mp ho with rfl | ho
    · exact absurd (h.1.writes b hmem) (by omega)
    · exact Steps.not_mem h.2 (by omega) o ho hmem

/-- A buffer before position `n` keeps its contents through the line. -/
theorem Steps.keep {ops : List (HloOp τ sig Val)} {n : ℕ} (h : Steps ops n) (V : Valuation τ sig Val)
    {b : DevRef τ sig} (hb : rank b < n) : after ops V b = V b :=
  after_of_forall_not_mem ops V (h.not_mem hb)

/-- After the line, every one of its operations' equations holds. -/
theorem Steps.holds : ∀ {ops : List (HloOp τ sig Val)} {n : ℕ}, Steps ops n → ∀ V : Valuation τ sig Val,
    ∀ op ∈ ops, Holds (after ops V) op
  | op :: ops, n, h, V, o, ho => by
    rcases List.mem_cons.mp ho with rfl | ho
    · intro b hb
      have hr := h.1.writes b hb
      rw [after_cons, h.2.keep _ (by omega : rank b < n + 1), h.1.reads _ V (fun b' hb' => ?_) b hb]
      rw [h.2.keep _ (by omega : rank b' < n + 1), HloOp.result_of_not_mem]
      exact fun hm => absurd (h.1.writes b' hm) (by omega)
    · exact Steps.holds h.2 _ o ho

/-! ## The builders over typed references -/

/-- What a typed reference's buffer holds. -/
def get (W : Valuation τ sig Val) {T : BufTy} (t : TRef sig T) : T.Contents Val := t.ofBuf (W (Proc.devRef .tc t.ref))

variable {T Tx Ta Tb Tc Te Ty : BufTy}

/-- The position of a typed reference's buffer. -/
def pos (t : TRef sig T) : ℕ := t.ref.idx.val

/-- An operation of no operands writes its own position, and reads earlier ones. -/
theorem step_nullary (y : TRef sig Ty) (v : Ty.Contents Val) {n : ℕ} (hn : pos y = n) :
    Step (TRef.nullary (τ := τ) y v) n where
  writes := by intro b hb; rw [nullary_writes, Finset.mem_singleton] at hb; subst hb; exact hn
  reads := by
    intro V V' _ o ho; rw [nullary_writes, Finset.mem_singleton] at ho; subst ho
    rw [nullary_result, nullary_result]

/-- An operation of one operand writes its own position, and reads earlier ones. -/
theorem step_unary (x : TRef sig Tx) (y : TRef sig Ty) (f : Tx.Contents Val → Ty.Contents Val) {n : ℕ}
    (hn : pos y = n) (hx : pos x < n) : Step (TRef.unary (τ := τ) x y f) n where
  writes := by intro b hb; rw [unary_writes, Finset.mem_singleton] at hb; subst hb; exact hn
  reads := by
    intro V V' h o ho; rw [unary_writes, Finset.mem_singleton] at ho; subst ho
    rw [unary_result, unary_result, h (Proc.devRef .tc x.ref) hx]

/-- An operation of two operands writes its own position, and reads earlier ones. -/
theorem step_binary (a : TRef sig Ta) (b : TRef sig Tb) (y : TRef sig Ty)
    (f : Ta.Contents Val → Tb.Contents Val → Ty.Contents Val) {n : ℕ} (hn : pos y = n) (ha : pos a < n) (hb : pos b < n) :
    Step (TRef.binary (τ := τ) a b y f) n where
  writes := by intro b hb; rw [binary_writes, Finset.mem_singleton] at hb; subst hb; exact hn
  reads := by
    intro V V' h o ho; rw [binary_writes, Finset.mem_singleton] at ho; subst ho
    rw [binary_result, binary_result, h (Proc.devRef .tc a.ref) ha, h (Proc.devRef .tc b.ref) hb]

/-- An operation of three operands writes its own position, and reads earlier ones. -/
theorem step_ternary (c : TRef sig Tc) (a : TRef sig Ta) (b : TRef sig Tb) (y : TRef sig Ty)
    (f : Tc.Contents Val → Ta.Contents Val → Tb.Contents Val → Ty.Contents Val) {n : ℕ} (hn : pos y = n)
    (hc : pos c < n) (ha : pos a < n) (hb : pos b < n) : Step (TRef.ternary (τ := τ) c a b y f) n where
  writes := by intro b hb; rw [ternary_writes, Finset.mem_singleton] at hb; subst hb; exact hn
  reads := by
    intro V V' h o ho; rw [ternary_writes, Finset.mem_singleton] at ho; subst ho
    rw [ternary_result, ternary_result, h (Proc.devRef .tc c.ref) hc, h (Proc.devRef .tc a.ref) ha, h (Proc.devRef .tc b.ref) hb]

/-- An operation of four operands writes its own position, and reads earlier ones. -/
theorem step_quaternary (a : TRef sig Ta) (b : TRef sig Tb) (c : TRef sig Tc) (e : TRef sig Te) (y : TRef sig Ty)
    (f : Ta.Contents Val → Tb.Contents Val → Tc.Contents Val → Te.Contents Val → Ty.Contents Val) {n : ℕ}
    (hn : pos y = n) (ha : pos a < n) (hb : pos b < n) (hc : pos c < n) (he : pos e < n) :
    Step (TRef.quaternary (τ := τ) a b c e y f) n where
  writes := by intro b hb; rw [quaternary_writes, Finset.mem_singleton] at hb; subst hb; exact hn
  reads := by
    intro V V' h o ho; rw [quaternary_writes, Finset.mem_singleton] at ho; subst ho
    rw [quaternary_result, quaternary_result, h (Proc.devRef .tc a.ref) ha, h (Proc.devRef .tc b.ref) hb, h (Proc.devRef .tc c.ref) hc, h (Proc.devRef .tc e.ref) he]

variable {W : Valuation τ sig Val}

/-- The equation of an operation of no operands. -/
theorem Holds.nullary {y : TRef sig Ty} {v : Ty.Contents Val} (h : Holds W (TRef.nullary (τ := τ) y v)) :
    get W y = v := by
  have := h _ (Finset.mem_singleton_self _)
  rw [nullary_result] at this
  rw [get, ← this, TRef.ofBuf_toBuf]

/-- The equation of an operation of one operand. -/
theorem Holds.unary {x : TRef sig Tx} {y : TRef sig Ty} {f : Tx.Contents Val → Ty.Contents Val}
    (h : Holds W (TRef.unary (τ := τ) x y f)) : get W y = f (get W x) := by
  have := h _ (Finset.mem_singleton_self _)
  rw [unary_result] at this
  rw [get, ← this, TRef.ofBuf_toBuf]; rfl

/-- The equation of an operation of two operands. -/
theorem Holds.binary {a : TRef sig Ta} {b : TRef sig Tb} {y : TRef sig Ty}
    {f : Ta.Contents Val → Tb.Contents Val → Ty.Contents Val}
    (h : Holds W (TRef.binary (τ := τ) a b y f)) : get W y = f (get W a) (get W b) := by
  have := h _ (Finset.mem_singleton_self _)
  rw [binary_result] at this
  rw [get, ← this, TRef.ofBuf_toBuf]; rfl

/-- The equation of an operation of three operands. -/
theorem Holds.ternary {c : TRef sig Tc} {a : TRef sig Ta} {b : TRef sig Tb} {y : TRef sig Ty}
    {f : Tc.Contents Val → Ta.Contents Val → Tb.Contents Val → Ty.Contents Val}
    (h : Holds W (TRef.ternary (τ := τ) c a b y f)) : get W y = f (get W c) (get W a) (get W b) := by
  have := h _ (Finset.mem_singleton_self _)
  rw [ternary_result] at this
  rw [get, ← this, TRef.ofBuf_toBuf]; rfl

/-- The equation of an operation of four operands. -/
theorem Holds.quaternary {a : TRef sig Ta} {b : TRef sig Tb} {c : TRef sig Tc} {e : TRef sig Te} {y : TRef sig Ty}
    {f : Ta.Contents Val → Tb.Contents Val → Tc.Contents Val → Te.Contents Val → Ty.Contents Val}
    (h : Holds W (TRef.quaternary (τ := τ) a b c e y f)) :
    get W y = f (get W a) (get W b) (get W c) (get W e) := by
  have := h _ (Finset.mem_singleton_self _)
  rw [quaternary_result] at this
  rw [get, ← this, TRef.ofBuf_toBuf]; rfl

end Cert.Proof.Ssa

end
-- ==== Proof.Math.Spec.lean ====
/-  The calibration error as mathematics on extended reals: a row's confidence and hit, as the reference computes them
    (from the softmax) and as the kernel does (from the exponentials), the bins' three sums and the final error. -/
module

public import Idealize.ShloMosaic.PureOps.Ideal.Laws

@[expose] public section

noncomputable section

namespace Cert.Proof.Math

open Idealize.ShloMosaic

/-- `j` is the first place where `f` takes its greatest value. -/
def IsFirstMax (f : Fin 100 → EReal) (j : Fin 100) : Prop := (∀ k, f k ≤ f j) ∧ ∀ k, f k = f j → j ≤ k

/-- A row's exponentials, not shifted. -/
def expRow (x : Fin 100 → EReal) (k : Fin 100) : EReal := Ideal.exp (x k)

/-- A row's softmax, shifted by the row's maximum. -/
def softRow (x : Fin 100 → EReal) (k : Fin 100) : EReal :=
  Ideal.div (Ideal.exp (x k - Finset.univ.sup x)) (∑ j, Ideal.exp (x j - Finset.univ.sup x))

/-- The reference's confidence of a row: the greatest softmax entry. -/
def confR (x : Fin 100 → EReal) : EReal := Finset.univ.sup (softRow x)

/-- The kernel's confidence of a row: the greatest exponential over the sum of them. -/
def confK (x : Fin 100 → EReal) : EReal := Ideal.div (Finset.univ.sup (expRow x)) (∑ j, expRow x j)

open Classical in
/-- One if the label `l` is the first place of `f`'s greatest value, else zero. -/
def hit (f : Fin 100 → EReal) (l : BitVec 32) : EReal := if ∃ j, IsFirstMax f j ∧ (j.val : ℤ) = l.toInt then 1 else 0

/-- One if `c` lies in the half-open interval from `lo` (left out) to `hi` (taken in), else zero. -/
def inBin (lo hi c : EReal) : EReal := if lo < c ∧ c ≤ hi then 1 else 0

/-- A bin's share of the error, from its count `n` and its summed hits `a` and confidences `c`: the gap between the
    two averages, weighted by the share of the rows; zero if the bin is empty. -/
def gap (n a c : EReal) : EReal :=
  if 0 < n then
    max (Ideal.div c (max n (Ideal.ofBits .f32 0x3F800000#32)) - Ideal.div a (max n (Ideal.ofBits .f32 0x3F800000#32)))
      (-(Ideal.div c (max n (Ideal.ofBits .f32 0x3F800000#32)) - Ideal.div a (max n (Ideal.ofBits .f32 0x3F800000#32))))
      * Ideal.div n (Ideal.ofBits .f32 0x48F42400#32)
  else 0

/-- The lower end of bin `i`, as a word. -/
def loWord : Fin 15 → BitVec 32
  | 0 => 0x00000000#32 | 1 => 0x3D888889#32 | 2 => 0x3E088889#32 | 3 => 0x3E4CCCCD#32 | 4 => 0x3E888889#32
  | 5 => 0x3EAAAAAB#32 | 6 => 0x3ECCCCCD#32 | 7 => 0x3EEEEEEF#32 | 8 => 0x3F088889#32 | 9 => 0x3F19999A#32
  | 10 => 0x3F2AAAAB#32 | 11 => 0x3F3BBBBC#32 | 12 => 0x3F4CCCCD#32 | 13 => 0x3F5DDDDE#32 | 14 => 0x3F6EEEEF#32

/-- The upper end of bin `i`, as a word. -/
def hiWord : Fin 15 → BitVec 32
  | 0 => 0x3D888889#32 | 1 => 0x3E088889#32 | 2 => 0x3E4CCCCD#32 | 3 => 0x3E888889#32
  | 4 => 0x3EAAAAAB#32 | 5 => 0x3ECCCCCD#32 | 6 => 0x3EEEEEEF#32 | 7 => 0x3F088889#32 | 8 => 0x3F19999A#32
  | 9 => 0x3F2AAAAB#32 | 10 => 0x3F3BBBBC#32 | 11 => 0x3F4CCCCD#32 | 12 => 0x3F5DDDDE#32 | 13 => 0x3F6EEEEF#32
  | 14 => 0x3F800000#32

/-- The ends of bin `i`. -/
def lo (i : Fin 15) : EReal := Ideal.ofBits .f32 (loWord i)
/-- The upper end of bin `i`. -/
def hi (i : Fin 15) : EReal := Ideal.ofBits .f32 (hiWord i)

/-- Whether a confidence lies in bin `i`, as a number. -/
def bin (i : Fin 15) (c : EReal) : EReal := inBin (lo i) (hi i) c

/-- The error over the rows `ι`, from each row's confidence and hit. -/
def ece {ι : Type} [Fintype ι] (conf acc : ι → EReal) : EReal :=
  ∑ i : Fin 15, gap (∑ r, bin i (conf r)) (∑ r, acc r * bin i (conf r)) (∑ r, conf r * bin i (conf r))

end Cert.Proof.Math

end
-- ==== Proof.Reference.Ops.lean ====
/-  The reference's host operations as a list: the confidences and the hits, then the fifteen bins, which are one
    list of operations at fifteen places. -/
module

public import proofs.«01_k».proof.Proof.Gen.ReferenceIdeal
public import proofs.«01_k».proof.Proof.Reference.Ssa
public import proofs.«01_k».proof.Proof.Math.Spec

@[expose] public section

noncomputable section

namespace Cert.Proof.Ref

open Cert.ReferenceIdeal Cert.ReferenceIdeal.Gen Idealize.ShloMosaic Idealize.ShloMosaic.TcCoe Idealize.SL.Sem
  Idealize.ShloMosaic.StableHlo Cert.Proof.Ssa

variable {F : FTy → Type} [FloatOps F]

/-- The types of a bin's values, one per operation. -/
def slotTy : Fin 33 → BufTy
  | 1 | 4 | 7 | 14 | 15 | 19 => ⟨S500000, .f32⟩
  | 2 | 5 | 6 => ⟨S500000, .i1⟩
  | 27 => ⟨S_, .i1⟩
  | 31 | 32 => ⟨S1, .f32⟩
  | _ => ⟨S_, .f32⟩

/-- The buffer of bin `i`'s value `k`. -/
abbrev slot (i : Fin 15) (k : Fin 33) : Ref sig .tc :=
  ⟨.hbm, ⟨26 + 33 * i.val + k.val, by show _ < 521; omega⟩, rfl⟩

/-- The types of a bin's buffers. -/
theorem slot_ty : ∀ (i : Fin 15) (k : Fin 33), (slot i k).ty = slotTy k := by decide +kernel

/-- Bin `i`'s value `k`, at its type. -/
abbrev loc {T : BufTy} (i : Fin 15) (k : Fin 33) (h : slotTy k = T := by rfl) : TRef sig T :=
  ⟨slot i k, (slot_ty i k).trans h, (by decide : Space.hbm ≠ Space.host), rfl⟩

/-- The buffer holding the error summed over the first `i` bins. -/
abbrev sumRef (i : ℕ) (h : i < 16) : Ref sig .tc := ⟨.hbm, ⟨25 + 33 * i, by show _ < 521; omega⟩, rfl⟩

/-- The type of a running sum. -/
theorem sum_ty : ∀ i : Fin 16, (sumRef i.val i.isLt).ty = ⟨S1, .f32⟩ := by decide +kernel

/-- The error summed over the first `i` bins, at its type. -/
abbrev sumLoc (i : ℕ) (h : i < 16) : TRef sig ⟨S1, .f32⟩ := ⟨sumRef i h, sum_ty ⟨i, h⟩, (by decide : Space.hbm ≠ Space.host), rfl⟩

/-- The confidences. -/
abbrev tConf : TRef sig ⟨S500000, .f32⟩ := .of main_v11
/-- The hits, as truth values. -/
abbrev tHit : TRef sig ⟨S500000, .i1⟩ := .of main_v13

/-- The operations before the first bin: the softmax, its row maximum (the confidence), its row argmax compared to
    the label (the hit), and the zero the errors are summed onto. -/
def headOps : List (HloOp τ sig (Elt F)) :=
  [ TRef.nullary (.of (T := ⟨S_, .f32⟩) main_cst) (constant S_ .f32 0xFF800000#32),
    TRef.binary (.of (T := ⟨S500000x100, .f32⟩) main_arg0) (.of (T := ⟨S_, .f32⟩) main_cst) (.of (T := ⟨S500000, .f32⟩) main_v0)
      (fun x v => Host.reduce FloatOps.maximumf x v reducesTo_S500000x100_S500000_d1 h_S_),
    TRef.nullary (.of (T := ⟨S_, .f32⟩) main_cst_0) (constant S_ .f32 0xFF800000#32),
    TRef.unary (.of (T := ⟨S_, .f32⟩) main_cst_0) (.of (T := ⟨S500000, .f32⟩) main_v1) (broadcastInDim S500000 ![] bcast_S_S500000),
    TRef.binary (.of (T := ⟨S500000, .f32⟩) main_v1) (.of (T := ⟨S500000, .f32⟩) main_v0) (.of (T := ⟨S500000, .f32⟩) main_v2) maximumf,
    TRef.unary (.of (T := ⟨S500000, .f32⟩) main_v2) (.of (T := ⟨S500000x1, .f32⟩) main_v3)
      (broadcastInDim S500000x1 ![0] bcast_S500000_S500000x1_0),
    TRef.unary (.of (T := ⟨S500000x1, .f32⟩) main_v3) (.of (T := ⟨S500000x100, .f32⟩) main_v4)
      (broadcastInDim S500000x100 ![0, 1] bcast_S500000x1_S500000x100_0_1),
    TRef.binary (.of (T := ⟨S500000x100, .f32⟩) main_arg0) (.of (T := ⟨S500000x100, .f32⟩) main_v4)
      (.of (T := ⟨S500000x100, .f32⟩) main_v5) subf,
    TRef.unary (.of (T := ⟨S500000x100, .f32⟩) main_v5) (.of (T := ⟨S500000x100, .f32⟩) main_v6) Host.exp,
    TRef.nullary (.of (T := ⟨S_, .f32⟩) main_cst_1) (constant S_ .f32 0x00000000#32),
    TRef.binary (.of (T := ⟨S500000x100, .f32⟩) main_v6) (.of (T := ⟨S_, .f32⟩) main_cst_1) (.of (T := ⟨S500000, .f32⟩) main_v7)
      (fun x v => Host.reduceAdd x v reducesTo_S500000x100_S500000_d1 h_S_),
    TRef.unary (.of (T := ⟨S500000, .f32⟩) main_v7) (.of (T := ⟨S500000x1, .f32⟩) main_v8)
      (broadcastInDim S500000x1 ![0] bcast_S500000_S500000x1_0),
    TRef.unary (.of (T := ⟨S500000x1, .f32⟩) main_v8) (.of (T := ⟨S500000x100, .f32⟩) main_v9)
      (broadcastInDim S500000x100 ![0, 1] bcast_S500000x1_S500000x100_0_1),
    TRef.binary (.of (T := ⟨S500000x100, .f32⟩) main_v6) (.of (T := ⟨S500000x100, .f32⟩) main_v9)
      (.of (T := ⟨S500000x100, .f32⟩) main_v10) Host.divf,
    TRef.nullary (.of (T := ⟨S_, .f32⟩) main_cst_2) (constant S_ .f32 0xFF800000#32),
    TRef.binary (.of (T := ⟨S500000x100, .f32⟩) main_v10) (.of (T := ⟨S_, .f32⟩) main_cst_2) tConf
      (fun x v => Host.reduce FloatOps.maximumf x v reducesTo_S500000x100_S500000_d1 h_S_),
    TRef.nullary (.of (T := ⟨S500000x100, .i32⟩) main_call0_v0) (iotaInDim S500000x100 32 1),
    TRef.nullary (.of (T := ⟨S_, .f32⟩) main_call0_cst) (constant S_ .f32 0xFF800000#32),
    TRef.nullary (.of (T := ⟨S_, .i32⟩) main_call0_c) (constantI S_ 32 0#32),
    TRef.quaternary (.of (T := ⟨S500000x100, .f32⟩) main_v10) (.of (T := ⟨S500000x100, .i32⟩) main_call0_v0)
      (.of (T := ⟨S_, .f32⟩) main_call0_cst) (.of (T := ⟨S_, .i32⟩) main_call0_c) (.of (T := ⟨S500000, .f32⟩) main_call0_v1_0)
      (fun x y u v j => (Host.argReduce reducer_argmax_f32_i32 x y u v reducesTo_S500000x100_S500000_d1 h_S_ j).1),
    TRef.quaternary (.of (T := ⟨S500000x100, .f32⟩) main_v10) (.of (T := ⟨S500000x100, .i32⟩) main_call0_v0)
      (.of (T := ⟨S_, .f32⟩) main_call0_cst) (.of (T := ⟨S_, .i32⟩) main_call0_c) (.of (T := ⟨S500000, .i32⟩) main_v12)
      (fun x y u v j => (Host.argReduce reducer_argmax_f32_i32 x y u v reducesTo_S500000x100_S500000_d1 h_S_ j).2),
    TRef.binary (.of (T := ⟨S500000, .i32⟩) main_v12) (.of (T := ⟨S500000, .i32⟩) main_arg1) tHit (cmpi .eq),
    TRef.nullary (.of (T := ⟨S_, .f32⟩) main_cst_3) (constant S_ .f32 0x00000000#32),
    TRef.unary (.of (T := ⟨S_, .f32⟩) main_cst_3) (sumLoc 0 (by decide)) (broadcastInDim S1 ![] bcast_S_S1) ]

/-- Bin `i`'s operations: which rows fall in it, how many, their hits and their confidences summed and averaged, the
    weighted gap between the two averages (zero for an empty bin), and that gap added to the sum so far. -/
def binOps (i : Fin 15) : List (HloOp τ sig (Elt F)) :=
  [ TRef.nullary (loc (T := ⟨S_, .f32⟩) i 0) (constant S_ .f32 (Math.loWord i)),
    TRef.unary (loc (T := ⟨S_, .f32⟩) i 0) (loc (T := ⟨S500000, .f32⟩) i 1) (broadcastInDim S500000 ![] bcast_S_S500000),
    TRef.binary tConf (loc (T := ⟨S500000, .f32⟩) i 1) (loc (T := ⟨S500000, .i1⟩) i 2) (cmpf .ogt),
    TRef.nullary (loc (T := ⟨S_, .f32⟩) i 3) (constant S_ .f32 (Math.hiWord i)),
    TRef.unary (loc (T := ⟨S_, .f32⟩) i 3) (loc (T := ⟨S500000, .f32⟩) i 4) (broadcastInDim S500000 ![] bcast_S_S500000),
    TRef.binary tConf (loc (T := ⟨S500000, .f32⟩) i 4) (loc (T := ⟨S500000, .i1⟩) i 5) (cmpf .ole),
    TRef.binary (loc (T := ⟨S500000, .i1⟩) i 2) (loc (T := ⟨S500000, .i1⟩) i 5) (loc (T := ⟨S500000, .i1⟩) i 6) andi,
    TRef.unary (loc (T := ⟨S500000, .i1⟩) i 6) (loc (T := ⟨S500000, .f32⟩) i 7) (uitofp .f32),
    TRef.nullary (loc (T := ⟨S_, .f32⟩) i 8) (constant S_ .f32 0x00000000#32),
    TRef.binary (loc (T := ⟨S500000, .f32⟩) i 7) (loc (T := ⟨S_, .f32⟩) i 8) (loc (T := ⟨S_, .f32⟩) i 9)
      (fun x v => Host.reduceAdd x v reducesTo_S500000_S_d0 h_S_),
    TRef.nullary (loc (T := ⟨S_, .f32⟩) i 10) (constant S_ .f32 0x48F42400#32),
    TRef.binary (loc (T := ⟨S_, .f32⟩) i 9) (loc (T := ⟨S_, .f32⟩) i 10) (loc (T := ⟨S_, .f32⟩) i 11) Host.divf,
    TRef.nullary (loc (T := ⟨S_, .f32⟩) i 12) (constant S_ .f32 0x3F800000#32),
    TRef.binary (loc (T := ⟨S_, .f32⟩) i 9) (loc (T := ⟨S_, .f32⟩) i 12) (loc (T := ⟨S_, .f32⟩) i 13) maximumf,
    TRef.unary tHit (loc (T := ⟨S500000, .f32⟩) i 14) (uitofp .f32),
    TRef.binary (loc (T := ⟨S500000, .f32⟩) i 14) (loc (T := ⟨S500000, .f32⟩) i 7) (loc (T := ⟨S500000, .f32⟩) i 15) mulf,
    TRef.nullary (loc (T := ⟨S_, .f32⟩) i 16) (constant S_ .f32 0x00000000#32),
    TRef.binary (loc (T := ⟨S500000, .f32⟩) i 15) (loc (T := ⟨S_, .f32⟩) i 16) (loc (T := ⟨S_, .f32⟩) i 17)
      (fun x v => Host.reduceAdd x v reducesTo_S500000_S_d0 h_S_),
    TRef.binary (loc (T := ⟨S_, .f32⟩) i 17) (loc (T := ⟨S_, .f32⟩) i 13) (loc (T := ⟨S_, .f32⟩) i 18) Host.divf,
    TRef.binary tConf (loc (T := ⟨S500000, .f32⟩) i 7) (loc (T := ⟨S500000, .f32⟩) i 19) mulf,
    TRef.nullary (loc (T := ⟨S_, .f32⟩) i 20) (constant S_ .f32 0x00000000#32),
    TRef.binary (loc (T := ⟨S500000, .f32⟩) i 19) (loc (T := ⟨S_, .f32⟩) i 20) (loc (T := ⟨S_, .f32⟩) i 21)
      (fun x v => Host.reduceAdd x v reducesTo_S500000_S_d0 h_S_),
    TRef.binary (loc (T := ⟨S_, .f32⟩) i 21) (loc (T := ⟨S_, .f32⟩) i 13) (loc (T := ⟨S_, .f32⟩) i 22) Host.divf,
    TRef.binary (loc (T := ⟨S_, .f32⟩) i 22) (loc (T := ⟨S_, .f32⟩) i 18) (loc (T := ⟨S_, .f32⟩) i 23) subf,
    TRef.unary (loc (T := ⟨S_, .f32⟩) i 23) (loc (T := ⟨S_, .f32⟩) i 24) Host.absf,
    TRef.binary (loc (T := ⟨S_, .f32⟩) i 24) (loc (T := ⟨S_, .f32⟩) i 11) (loc (T := ⟨S_, .f32⟩) i 25) mulf,
    TRef.nullary (loc (T := ⟨S_, .f32⟩) i 26) (constant S_ .f32 0x00000000#32),
    TRef.binary (loc (T := ⟨S_, .f32⟩) i 9) (loc (T := ⟨S_, .f32⟩) i 26) (loc (T := ⟨S_, .i1⟩) i 27) (cmpf .ogt),
    TRef.nullary (loc (T := ⟨S_, .f32⟩) i 28) (constant S_ .f32 0x00000000#32),
    TRef.unary (loc (T := ⟨S_, .f32⟩) i 28) (loc (T := ⟨S_, .f32⟩) i 29) id,
    TRef.ternary (loc (T := ⟨S_, .i1⟩) i 27) (loc (T := ⟨S_, .f32⟩) i 25) (loc (T := ⟨S_, .f32⟩) i 29)
      (loc (T := ⟨S_, .f32⟩) i 30) select,
    TRef.unary (loc (T := ⟨S_, .f32⟩) i 30) (loc (T := ⟨S1, .f32⟩) i 31) (broadcastInDim S1 ![] bcast_S_S1),
    TRef.binary (sumLoc i.val (by omega)) (loc (T := ⟨S1, .f32⟩) i 31) (sumLoc (i.val + 1) (by omega)) addf ]

/-- The first `n` bins' operations. -/
def binsOps : (n : ℕ) → n ≤ 15 → List (HloOp τ sig (Elt F))
  | 0, _ => []
  | n + 1, h => binsOps n (by omega) ++ binOps ⟨n, h⟩

/-- All of the reference's operations. -/
def ops : List (HloOp τ sig (Elt F)) := headOps ++ binsOps 15 le_rfl

end Cert.Proof.Ref

end
-- ==== Proof.Reference.Steps.lean ====
/-  The reference's operations write their buffers in order, each from earlier ones. -/
module

public import proofs.«01_k».proof.Proof.Reference.Ops

@[expose] public section

noncomputable section

namespace Cert.Proof.Ref

open Cert.ReferenceIdeal Cert.ReferenceIdeal.Gen Idealize.ShloMosaic Idealize.ShloMosaic.TcCoe Idealize.SL.Sem
  Idealize.ShloMosaic.StableHlo Cert.Proof.Ssa

variable {F : FTy → Type} [FloatOps F]

/-- Where a bin's own buffer lies. -/
theorem pos_loc {T : BufTy} (i : Fin 15) (k : Fin 33) (h : slotTy k = T) : pos (loc i k h) = 26 + 33 * i.val + k.val := rfl
/-- Where a running sum lies. -/
theorem pos_sum (i : ℕ) (h : i < 16) : pos (sumLoc i h) = 25 + 33 * i := rfl
/-- Where the confidences lie. -/
theorem pos_conf : pos tConf = 17 := rfl
/-- Where the hits lie. -/
theorem pos_hit : pos tHit = 23 := rfl

/-- The head's operations write positions 2 to 25 in order. -/
theorem head_steps : Steps (headOps : List (HloOp τ sig (Elt F))) 2 := by
  refine ⟨
    step_nullary _ _ ?_, step_binary _ _ _ _ ?_ ?_ ?_, step_nullary _ _ ?_, step_unary _ _ _ ?_ ?_,
    step_binary _ _ _ _ ?_ ?_ ?_, step_unary _ _ _ ?_ ?_, step_unary _ _ _ ?_ ?_, step_binary _ _ _ _ ?_ ?_ ?_,
    step_unary _ _ _ ?_ ?_, step_nullary _ _ ?_, step_binary _ _ _ _ ?_ ?_ ?_, step_unary _ _ _ ?_ ?_,
    step_unary _ _ _ ?_ ?_, step_binary _ _ _ _ ?_ ?_ ?_, step_nullary _ _ ?_, step_binary _ _ _ _ ?_ ?_ ?_,
    step_nullary _ _ ?_, step_nullary _ _ ?_, step_nullary _ _ ?_, step_quaternary _ _ _ _ _ _ ?_ ?_ ?_ ?_ ?_,
    step_quaternary _ _ _ _ _ _ ?_ ?_ ?_ ?_ ?_, step_binary _ _ _ _ ?_ ?_ ?_, step_nullary _ _ ?_,
    step_unary _ _ _ ?_ ?_, trivial⟩
  all_goals first
    | rfl
    | decide

/-- Bin `i`'s operations write the bin's 33 positions in order. -/
theorem bin_steps (i : Fin 15) : Steps (binOps i : List (HloOp τ sig (Elt F))) (26 + 33 * i.val) := by
  have hi := i.isLt
  refine ⟨
    step_nullary _ _ ?_, step_unary _ _ _ ?_ ?_, step_binary _ _ _ _ ?_ ?_ ?_, step_nullary _ _ ?_,
    step_unary _ _ _ ?_ ?_, step_binary _ _ _ _ ?_ ?_ ?_, step_binary _ _ _ _ ?_ ?_ ?_, step_unary _ _ _ ?_ ?_,
    step_nullary _ _ ?_, step_binary _ _ _ _ ?_ ?_ ?_, step_nullary _ _ ?_, step_binary _ _ _ _ ?_ ?_ ?_,
    step_nullary _ _ ?_, step_binary _ _ _ _ ?_ ?_ ?_, step_unary _ _ _ ?_ ?_, step_binary _ _ _ _ ?_ ?_ ?_,
    step_nullary _ _ ?_, step_binary _ _ _ _ ?_ ?_ ?_, step_binary _ _ _ _ ?_ ?_ ?_, step_binary _ _ _ _ ?_ ?_ ?_,
    step_nullary _ _ ?_, step_binary _ _ _ _ ?_ ?_ ?_, step_binary _ _ _ _ ?_ ?_ ?_, step_binary _ _ _ _ ?_ ?_ ?_,
    step_unary _ _ _ ?_ ?_, step_binary _ _ _ _ ?_ ?_ ?_, step_nullary _ _ ?_, step_binary _ _ _ _ ?_ ?_ ?_,
    step_nullary _ _ ?_, step_unary _ _ _ ?_ ?_, step_ternary _ _ _ _ _ ?_ ?_ ?_ ?_, step_unary _ _ _ ?_ ?_,
    step_binary _ _ _ _ ?_ ?_ ?_, trivial⟩
  all_goals simp only [pos_loc, pos_sum, pos_conf, pos_hit]
  all_goals try simp
  all_goals try omega

/-- The first `n` bins' operations write the positions after the head's in order. -/
theorem bins_steps : ∀ (n : ℕ) (h : n ≤ 15), Steps (binsOps n h : List (HloOp τ sig (Elt F))) 26
    ∧ (binsOps n h : List (HloOp τ sig (Elt F))).length = 33 * n
  | 0, _ => ⟨trivial, rfl⟩
  | n + 1, h => by
    obtain ⟨h₁, h₂⟩ := bins_steps n (by omega)
    refine ⟨h₁.append _ ?_, ?_⟩
    · rw [h₂]; exact bin_steps ⟨n, h⟩
    · rw [binsOps, List.length_append, h₂]; show 33 * n + 33 = _; omega

/-- All the reference's operations write positions 2 to 520 in order. -/
theorem ops_steps : Steps (ops : List (HloOp τ sig (Elt F))) 2 :=
  head_steps.append _ (bins_steps 15 le_rfl).1

/-- An operation before the bins is one of all. -/
theorem mem_ops_of_head {op : HloOp τ sig (Elt F)} (h : op ∈ (headOps : List (HloOp τ sig (Elt F)))) : op ∈ ops (F := F) :=
  List.mem_append_left _ h

/-- A bin's operation is one of the bins' operations. -/
theorem mem_bins {op : HloOp τ sig (Elt F)} (i : Fin 15) (h : op ∈ (binOps i : List (HloOp τ sig (Elt F)))) :
    ∀ (n : ℕ) (hn : n ≤ 15), i.val < n → op ∈ binsOps (F := F) n hn
  | n + 1, hn, hi => by
    rcases Nat.lt_succ_iff_lt_or_eq.mp hi with hlt | rfl
    · exact List.mem_append_left _ (mem_bins i h n (by omega) hlt)
    · exact List.mem_append_right _ h

/-- A bin's operation is one of all. -/
theorem mem_ops_of_bin {op : HloOp τ sig (Elt F)} (i : Fin 15) (h : op ∈ (binOps i : List (HloOp τ sig (Elt F)))) :
    op ∈ ops (F := F) := List.mem_append_right _ (mem_bins i h 15 le_rfl i.isLt)

end Cert.Proof.Ref

end
-- ==== Proof.Reference.Run.lean ====
/-  The reference program is its list of operations, and what its run leaves in every buffer. -/
module

public import proofs.«01_k».proof.Proof.Reference.Steps
public import Idealize.ShloMosaic.Lib.Pipeline.Frame
public import Idealize.ShloMosaic.Lib.Tactic

@[expose] public section

noncomputable section

namespace Cert.Proof.Ref

open Cert.ReferenceIdeal Cert.ReferenceIdeal.Gen Idealize.ShloMosaic Idealize.ShloMosaic.TcCoe Idealize.SL.Sem
  Idealize.ShloMosaic.StableHlo Cert.Proof.Ssa

variable {F : FTy → Type} [FloatOps F]

/-- The operations from position `a` on, `n` of them. -/
abbrev win (a n : ℕ) : List (HloOp τ sig (Elt F)) := (ops.drop a).take n

/-- Part 0 of the program is its stretch of the list. -/
theorem part0_eq (c : Dev nD) : main_part0 (F := F) c = seq (win 0 65) := by sl_kernel_rfl
/-- Part 1 of the program is its stretch of the list. -/
theorem part1_eq (c : Dev nD) : main_part1 (F := F) c = seq (win 65 62) := by sl_kernel_rfl
/-- Part 2 of the program is its stretch of the list. -/
theorem part2_eq (c : Dev nD) : main_part2 (F := F) c = seq (win 127 62) := by sl_kernel_rfl
/-- Part 3 of the program is its stretch of the list. -/
theorem part3_eq (c : Dev nD) : main_part3 (F := F) c = seq (win 189 61) := by sl_kernel_rfl
/-- Part 4 of the program is its stretch of the list. -/
theorem part4_eq (c : Dev nD) : main_part4 (F := F) c = seq (win 250 62) := by sl_kernel_rfl
/-- Part 5 of the program is its stretch of the list. -/
theorem part5_eq (c : Dev nD) : main_part5 (F := F) c = seq (win 312 62) := by sl_kernel_rfl
/-- Part 6 of the program is its stretch of the list. -/
theorem part6_eq (c : Dev nD) : main_part6 (F := F) c = seq (win 374 62) := by sl_kernel_rfl
/-- Part 7 of the program is its stretch of the list. -/
theorem part7_eq (c : Dev nD) : main_part7 (F := F) c = seq (win 436 62) := by sl_kernel_rfl
/-- Part 8 of the program is its stretch of the list. -/
theorem part8_eq (c : Dev nD) : main_part8 (F := F) c = seq (win 498 21) := by sl_kernel_rfl

/-- The windows are the list, cut. -/
theorem ops_eq : (ops : List (HloOp τ sig (Elt F))) =
    win 0 65 ++ (win 65 62 ++ (win 127 62 ++ (win 189 61 ++ (win 250 62 ++ (win 312 62 ++ (win 374 62 ++ (win 436 62 ++ (win 498 21)))))))) := by sl_kernel_rfl

/-- The reference program runs its operations in order. -/
theorem main_eq (c : Dev nD) : main (F := F) c = seq ops := by
  rw [ops_eq]
  simp only [seq_append, ← part0_eq c, ← part1_eq c, ← part2_eq c, ← part3_eq c, ← part4_eq c, ← part5_eq c, ← part6_eq c, ← part7_eq c, ← part8_eq c]
  rfl

/-- The reference has no scoped buffer. -/
theorem scopedRefs_eq : (Finset.univ.filter fun b : Ref sig .tc => b.isScoped) = ∅ := by decide
/-- The reference has no scoped semaphore. -/
theorem scopedSems_eq : (Finset.univ.filter fun sm : SemLoc sig => sm.isScoped .tc) = ∅ := by decide

section Builders
variable {Tx Ta Tb Tc Te Ty : BufTy}
/-- An operation without operands is plain. -/
theorem plain_nullary (y : TRef sig Ty) (v : Ty.Contents (Elt F)) :
    (TRef.nullary (τ := τ) y v).bufs ⊆ tcRefs τ sig ∧ (TRef.nullary (τ := τ) y v).fresh = ∅ := ⟨nullary_bufs_sub .., rfl⟩
/-- An operation of one operand is plain. -/
theorem plain_unary (x : TRef sig Tx) (y : TRef sig Ty) (f : Tx.Contents (Elt F) → Ty.Contents (Elt F)) :
    (TRef.unary (τ := τ) x y f).bufs ⊆ tcRefs τ sig ∧ (TRef.unary (τ := τ) x y f).fresh = ∅ := ⟨unary_bufs_sub .., rfl⟩
/-- An operation of two operands is plain. -/
theorem plain_binary (a : TRef sig Ta) (b : TRef sig Tb) (y : TRef sig Ty)
    (f : Ta.Contents (Elt F) → Tb.Contents (Elt F) → Ty.Contents (Elt F)) :
    (TRef.binary (τ := τ) a b y f).bufs ⊆ tcRefs τ sig ∧ (TRef.binary (τ := τ) a b y f).fresh = ∅ :=
  ⟨binary_bufs_sub .., rfl⟩
/-- An operation of three operands is plain. -/
theorem plain_ternary (c : TRef sig Tc) (a : TRef sig Ta) (b : TRef sig Tb) (y : TRef sig Ty)
    (f : Tc.Contents (Elt F) → Ta.Contents (Elt F) → Tb.Contents (Elt F) → Ty.Contents (Elt F)) :
    (TRef.ternary (τ := τ) c a b y f).bufs ⊆ tcRefs τ sig ∧ (TRef.ternary (τ := τ) c a b y f).fresh = ∅ :=
  ⟨ternary_bufs_sub .., rfl⟩
/-- An operation of four operands is plain. -/
theorem plain_quaternary (a : TRef sig Ta) (b : TRef sig Tb) (c : TRef sig Tc) (e : TRef sig Te) (y : TRef sig Ty)
    (f : Ta.Contents (Elt F) → Tb.Contents (Elt F) → Tc.Contents (Elt F) → Te.Contents (Elt F) → Ty.Contents (Elt F)) :
    (TRef.quaternary (τ := τ) a b c e y f).bufs ⊆ tcRefs τ sig ∧ (TRef.quaternary (τ := τ) a b c e y f).fresh = ∅ :=
  ⟨quaternary_bufs_sub .., rfl⟩
end Builders

/-- A list of typed-reference operations touches device buffers only and determines its results. -/
def Plain (l : List (HloOp τ sig (Elt F))) : Prop := ∀ op ∈ l, op.bufs ⊆ tcRefs τ sig ∧ op.fresh = ∅

/-- Each bin's operations are plain. -/
theorem plain_bin (i : Fin 15) : Plain (binOps i : List (HloOp τ sig (Elt F))) :=
  List.forall_iff_forall_mem.mp ⟨
    plain_nullary .., plain_unary .., plain_binary .., plain_nullary .., plain_unary .., plain_binary ..,
    plain_binary .., plain_unary .., plain_nullary .., plain_binary .., plain_nullary .., plain_binary ..,
    plain_nullary .., plain_binary .., plain_unary .., plain_binary .., plain_nullary .., plain_binary ..,
    plain_binary .., plain_binary .., plain_nullary .., plain_binary .., plain_binary .., plain_binary ..,
    plain_unary .., plain_binary .., plain_nullary .., plain_binary .., plain_nullary .., plain_unary ..,
    plain_ternary .., plain_unary .., plain_binary ..⟩

/-- So are those of the first `n` bins. -/
theorem plain_bins : ∀ (n : ℕ) (h : n ≤ 15), Plain (binsOps n h : List (HloOp τ sig (Elt F)))
  | 0, _ => fun _ h => nomatch h
  | n + 1, h => fun op ho => (List.mem_append.mp ho).elim (plain_bins n (by omega) op) (plain_bin ⟨n, h⟩ op)

/-- The operations before the bins are plain. -/
theorem plain_head : Plain (headOps : List (HloOp τ sig (Elt F))) :=
  List.forall_iff_forall_mem.mp ⟨
    plain_nullary .., plain_binary .., plain_nullary .., plain_unary .., plain_binary .., plain_unary ..,
    plain_unary .., plain_binary .., plain_unary .., plain_nullary .., plain_binary .., plain_unary ..,
    plain_unary .., plain_binary .., plain_nullary .., plain_binary .., plain_nullary .., plain_nullary ..,
    plain_nullary .., plain_quaternary .., plain_quaternary .., plain_binary .., plain_nullary .., plain_unary ..⟩

/-- All the operations are plain. -/
theorem plain_ops : Plain (ops : List (HloOp τ sig (Elt F))) := fun op ho =>
  (List.mem_append.mp ho).elim (plain_head op) (plain_bins 15 le_rfl op)

/-- What the device's buffers hold when the reference has run from the memory `m`. -/
def final (m : (ℓ : Loc nD τ sig) → Buf (Elt F) ℓ) (c : Dev nD) : Valuation τ sig (Elt F) := after ops (launchContents m c)

/-- The reference runs, and leaves every buffer as `final` says. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = final m c (Proc.devRef .tc b) :=
  run_seq scopedRefs_eq scopedSems_eq defs main (fun _ => ops) main_eq
    (fun _ => List.forall_iff_forall_mem.mpr fun op ho => (plain_ops op ho).1) m ρ fun _ op ho => (plain_ops op ho).2

/-- Every operation's equation holds of the final contents. -/
theorem final_holds (m : (ℓ : Loc nD τ sig) → Buf (Elt F) ℓ) (c : Dev nD) :
    ∀ op ∈ (ops : List (HloOp τ sig (Elt F))), Holds (final m c) op := ops_steps.holds _

/-- The arguments keep their launch contents. -/
theorem final_arg0 (m : (ℓ : Loc nD τ sig) → Buf (Elt F) ℓ) (c : Dev nD) :
    final m c (Proc.devRef .tc main_arg0) = m ((c.tc : Thread nD τ).loc main_arg0) :=
  ops_steps.keep _ (by decide : (0 : ℕ) < 2)
/-- The labels keep their launch contents. -/
theorem final_arg1 (m : (ℓ : Loc nD τ sig) → Buf (Elt F) ℓ) (c : Dev nD) :
    final m c (Proc.devRef .tc main_arg1) = m ((c.tc : Thread nD τ).loc main_arg1) :=
  ops_steps.keep _ (by decide : (1 : ℕ) < 2)

/-- The frame of the reference: it runs, its arguments end unchanged, and no semaphore counts (it declares none). -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h c main_arg0).trans (final_arg0 m c), (h c main_arg1).trans (final_arg1 m c)⟩,
    sem_eq_zero_of_no_sems (by decide) r.2⟩) (run m ρ)

end Cert.Proof.Ref

end
-- ==== Proof.Kernel.Blocks.lean ====
/-  What the kernel's windows read at a grid point. -/
module

public import proofs.«01_k».proof.Proof.Gen.KernelIdeal.Frame
public import proofs.«01_k».proof.Proof.Math.Spec
public import Idealize.ShloMosaic.Lib.Pointwise
public import Idealize.ShloMosaic.Lib.Claim
public import Idealize.ShloMosaic.Lib.Pipeline.Value

@[expose] public section

noncomputable section

namespace Cert.Proof.Ker

open Cert.KernelIdeal Cert.KernelIdeal.Gen Idealize.ShloMosaic Idealize.ShloMosaic.TcCoe Idealize.SL.Sem
open Idealize.ShloMosaic.Pointwise

variable (m : (ℓ : Loc nD τ sig) → Buf (Elt Ideal) ℓ) (c : Dev nD)

/-- Row `n` of the logits; past the last row, zeros. -/
def rowN (n : ℕ) (k : Fin 100) : EReal :=
  if h : n < 500000 then m ((c : Thread nD τ).loc main_arg0) (ix2 (⟨n, h⟩ : Fin 500000) k) else 0

/-- The label of row `n`; past the last row, zero. -/
def labelN (n : ℕ) : BitVec 32 :=
  if h : n < 500000 then m ((c : Thread nD τ).loc main_arg1) (ix1 (⟨n, h⟩ : Fin 500000)) else 0

/-- Point `t` reads the `t`-th block of logits. -/
theorem index0 : ∀ t : Fin grid0.N, win0_0.index t 0 = t.val ∧ win0_0.index t 1 = 0 := by decide +kernel
/-- The same of the labels. -/
theorem index1 : ∀ t : Fin grid0.N, win0_1.index t 0 = t.val ∧ win0_1.index t 1 = 0 ∧ win0_1.index t 2 = 0 := by decide +kernel
/-- The bounds are one block. -/
theorem index2 : ∀ t : Fin grid0.N, win0_2.index t 0 = 0 ∧ win0_2.index t 1 = 0 := by decide +kernel

/-- The block of logits. -/
theorem iblk0 (t : Fin cfg0.N) (r : Fin 4000) (k : Fin 100) :
    (iblk m c 0 t : Vec Ideal S4000x100 .f32) (ix2 r k) = rowN m c (4000 * t.val + r.val) k := by
  have hN : cfg0.N = 125 := N_0
  have hn : 4000 * t.val + r.val < 500000 := by have := t.isLt; have := r.isLt; omega
  have hi := index0 t
  unfold iblk rowN
  rw [View.read_apply, dif_pos hn]
  show V m c main_arg0 _ = _
  rw [V_main_arg0]
  refine congrArg (m ((c : Thread nD τ).loc main_arg0)) (funext fun a => Fin.ext ?_)
  match a with
  | ⟨0, _⟩ => show win0_0.index t 0 * 4000 + 1 * r.val = 4000 * t.val + r.val; rw [hi.1]; omega
  | ⟨1, _⟩ => show win0_0.index t 1 * 100 + 1 * k.val = k.val; rw [hi.2]; omega

/-- The labels as the region finds them: numbers, in blocks. -/
theorem labels_entry : V m c main_v1 = shapeCast S125x1x4000 (sitofp (F := Ideal) .f32 (m ((c : Thread nD τ).loc main_arg1)))
    shapeCasts_S500000_S125x1x4000 := by
  entry_read
  rfl

/-- The bounds as the region finds them. -/
theorem bounds_entry : V m c main_cst = fun i => Ideal.ofBits .f32 (lit0 (S2x15.rowMajor i)) := by
  entry_read
  rfl

/-- The block of labels. -/
theorem iblk1 (t : Fin cfg0.N) (r : Fin 4000) :
    (iblk m c 1 t : Vec Ideal S1x1x4000 .f32) (ix3 0 0 r) = (((labelN m c (4000 * t.val + r.val)).toInt : ℝ) : EReal) := by
  have hN : cfg0.N = 125 := N_0
  have ht : t.val < 125 := hN ▸ t.isLt
  have hn : 4000 * t.val + r.val < 500000 := by have := r.isLt; omega
  have hi := index1 t
  unfold iblk labelN
  rw [View.read_apply, dif_pos hn]
  show V m c main_v1 _ = _
  rw [labels_entry]
  refine (congrArg (shapeCast S125x1x4000 (sitofp (F := Ideal) .f32 (m ((c : Thread nD τ).loc main_arg1)))
    shapeCasts_S500000_S125x1x4000) (a₂ := ix3 (⟨t.val, ht⟩ : Fin 125) (0 : Fin 1) r) (funext fun a => Fin.ext ?_)).trans ?_
  · match a with
    | ⟨0, _⟩ => show win0_1.index t 0 * 1 + 1 * 0 = t.val; rw [hi.1]; omega
    | ⟨1, _⟩ => show win0_1.index t 1 * 1 + 1 * 0 = 0; rw [hi.2.1]
    | ⟨2, _⟩ => show win0_1.index t 2 * 4000 + 1 * r.val = r.val; rw [hi.2.2]; omega
  · refine (shapeCast_apply _ _ (ix3 (⟨t.val, ht⟩ : Fin 125) (0 : Fin 1) r) (ix1 (⟨4000 * t.val + r.val, hn⟩ : Fin 500000)) ?_).trans rfl
    rw [Shape.rowMajor_val_one, Shape.rowMajor_val_three]
    show 4000 * t.val + r.val = (t.val * 1 + 0) * 4000 + r.val
    omega

/-- The bounds' lower ends. -/
theorem iblk2_lo (t : Fin cfg0.N) (b : Fin 15) : (iblk m c 2 t : Vec Ideal S2x15 .f32) (ix2 0 b) = Math.lo b := by
  have hi := index2 t
  unfold iblk
  rw [View.read_apply]
  show V m c main_cst _ = _
  rw [bounds_entry]
  refine (congrArg (fun i : S2x15.Idx => Ideal.ofBits .f32 (lit0 (S2x15.rowMajor i))) (a₂ := ix2 0 b) (funext fun a => Fin.ext ?_)).trans ?_
  · match a with
    | ⟨0, _⟩ => show win0_2.index t 0 * 2 + 1 * 0 = 0; rw [hi.1]
    | ⟨1, _⟩ => show win0_2.index t 1 * 15 + 1 * b.val = b.val; rw [hi.2]; omega
  · fin_cases b <;> rfl

/-- The bounds' upper ends. -/
theorem iblk2_hi (t : Fin cfg0.N) (b : Fin 15) : (iblk m c 2 t : Vec Ideal S2x15 .f32) (ix2 1 b) = Math.hi b := by
  have hi := index2 t
  unfold iblk
  rw [View.read_apply]
  show V m c main_cst _ = _
  rw [bounds_entry]
  refine (congrArg (fun i : S2x15.Idx => Ideal.ofBits .f32 (lit0 (S2x15.rowMajor i))) (a₂ := ix2 1 b) (funext fun a => Fin.ext ?_)).trans ?_
  · match a with
    | ⟨0, _⟩ => show win0_2.index t 0 * 2 + 1 * 1 = 1; rw [hi.1]
    | ⟨1, _⟩ => show win0_2.index t 1 * 15 + 1 * b.val = b.val; rw [hi.2]; omega
  · fin_cases b <;> rfl

end Cert.Proof.Ker

end
-- ==== Proof.Math.ArgMax.lean ====
/-  The fold that finds a row's greatest value and the first place of it, over a list of value-place pairs. -/
module

public import proofs.«01_k».proof.Proof.Math.Spec
public import proofs.«01_k».proof.ReferenceIdeal

@[expose] public section

noncomputable section

namespace Cert.Proof.Math

open Idealize.ShloMosaic Cert.ReferenceIdeal

/-- One step keeps one of its two pairs: the greater value's, or at equal values the one whose place is smaller. -/
theorem argmax_step (a b : EReal × BitVec 32) :
    reducer_argmax_f32_i32 (F := Ideal) a b
      = if b.1 < a.1 ∨ (a.1 = b.1 ∧ a.2.toInt < b.2.toInt) then a else b := by
  obtain ⟨a1, a2⟩ := a; obtain ⟨b1, b2⟩ := b
  rcases lt_trichotomy b1 a1 with h | h | h
  · have h1 : ¬ a1 = b1 := ne_of_gt h
    simp [reducer_argmax_f32_i32, Scalar.select, Ideal.cmpf_def, Ideal.cmp, IntOp.ori, IntOp.andi, IntOp.cmpi, h, h1]
  · subst h
    by_cases h2 : a2.toInt < b2.toInt
    · simp [reducer_argmax_f32_i32, Scalar.select, Ideal.cmpf_def, Ideal.cmp, IntOp.ori, IntOp.andi, IntOp.cmpi, BitVec.slt, h2]
    · simp [reducer_argmax_f32_i32, Scalar.select, Ideal.cmpf_def, Ideal.cmp, IntOp.ori, IntOp.andi, IntOp.cmpi, BitVec.slt, h2]
  · have h1 : ¬ a1 = b1 := ne_of_lt h
    have h2 : ¬ b1 < a1 := not_lt.mpr h.le
    simp [reducer_argmax_f32_i32, Scalar.select, Ideal.cmpf_def, Ideal.cmp, IntOp.ori, IntOp.andi, IntOp.cmpi, h1, h2]

/-- What the fold has found after the pairs of `L`: a value none of theirs exceeds, at a place no later than any of
    theirs with that value, and a pair that is one of them or the starting one. -/
theorem argmax_fold (L : List (EReal × BitVec 32)) :
    (∀ p ∈ L, p.1 ≤ (L.foldl (reducer_argmax_f32_i32 (F := Ideal)) (⊥, 0#32)).1
      ∧ (p.1 = (L.foldl (reducer_argmax_f32_i32 (F := Ideal)) (⊥, 0#32)).1
        → (L.foldl (reducer_argmax_f32_i32 (F := Ideal)) (⊥, 0#32)).2.toInt ≤ p.2.toInt))
    ∧ (L.foldl (reducer_argmax_f32_i32 (F := Ideal)) (⊥, 0#32) ∈ L
      ∨ L.foldl (reducer_argmax_f32_i32 (F := Ideal)) (⊥, 0#32) = (⊥, 0#32)) := by
  induction L using List.reverseRecOn with
  | nil => simp
  | append_singleton L b ih =>
    rw [List.foldl_append, List.foldl_cons, List.foldl_nil, argmax_step]
    obtain ⟨ih1, ih2⟩ := ih
    generalize L.foldl (reducer_argmax_f32_i32 (F := Ideal)) (⊥, 0#32) = a at ih1 ih2
    split
    · next h =>
      refine ⟨fun p hp => ?_, ?_⟩
      · rcases List.mem_append.mp hp with hp | hp
        · exact ih1 p hp
        · obtain rfl := List.mem_singleton.mp hp
          rcases h with h | ⟨h, h'⟩
          · exact ⟨h.le, fun e => absurd e h.ne⟩
          · exact ⟨h.ge, fun _ => h'.le⟩
      · exact ih2.imp (fun h => List.mem_append_left _ h) id
    · next h =>
      rw [not_or, not_lt] at h
      refine ⟨fun p hp => ?_, Or.inl (List.mem_append_right _ (List.mem_singleton.mpr rfl))⟩
      rcases List.mem_append.mp hp with hp | hp
      · obtain ⟨h1, h2⟩ := ih1 p hp
        refine ⟨h1.trans h.1, fun e => ?_⟩
        have ea : a.1 = b.1 := le_antisymm h.1 (e ▸ h1)
        exact (not_lt.mp fun hl => h.2 ⟨ea, hl⟩).trans (h2 (e.trans ea.symm))
      · obtain rfl := List.mem_singleton.mp hp
        exact ⟨le_rfl, fun _ => le_rfl⟩

/-- A place as a word, read back. -/
theorem toInt_place : ∀ k : Fin 100, (BitVec.ofNat 32 k.val).toInt = (k.val : ℤ) := by decide

/-- Over a list holding exactly a row's pairs, the fold finds the first place of the row's greatest value. -/
theorem argmax_row (f : Fin 100 → EReal) (L : List (EReal × BitVec 32))
    (hL : ∀ p, p ∈ L ↔ ∃ k : Fin 100, p = (f k, BitVec.ofNat 32 k.val)) :
    ∃ k, IsFirstMax f k ∧ (L.foldl (reducer_argmax_f32_i32 (F := Ideal)) (⊥, 0#32)).2 = BitVec.ofNat 32 k.val := by
  obtain ⟨h1, h2⟩ := argmax_fold L
  generalize L.foldl (reducer_argmax_f32_i32 (F := Ideal)) (⊥, 0#32) = a at h1 h2
  have hk (k : Fin 100) := h1 _ ((hL (f k, BitVec.ofNat 32 k.val)).mpr ⟨k, rfl⟩)
  have key (k : Fin 100) (e : a = (f k, BitVec.ofNat 32 k.val)) : IsFirstMax f k := by
    subst e
    refine ⟨fun j => (hk j).1, fun j e => ?_⟩
    have := (hk j).2 e
    simp only [toInt_place] at this
    exact Fin.le_def.mpr (by omega)
  rcases h2 with h2 | h2
  · obtain ⟨k, e⟩ := (hL a).mp h2
    exact ⟨k, key k e, congrArg Prod.snd e⟩
  · have h0 : f 0 = ⊥ := le_bot_iff.mp (by have := (hk 0).1; rwa [h2] at this)
    exact ⟨0, key 0 (by rw [h2, h0]; rfl), by rw [h2]; rfl⟩

/-- The first place of a row's greatest value is one place. -/
theorem IsFirstMax.eq {f : Fin 100 → EReal} {j k : Fin 100} (hj : IsFirstMax f j) (hk : IsFirstMax f k) : j = k :=
  le_antisymm (hj.2 k (le_antisymm (hj.1 k) (hk.1 j))) (hk.2 j (le_antisymm (hk.1 j) (hj.1 k)))

/-- Every row has such a place. -/
theorem exists_firstMax (f : Fin 100 → EReal) : ∃ k, IsFirstMax f k :=
  (argmax_row f (List.ofFn fun k => (f k, BitVec.ofNat 32 k.val)) fun p =>
    List.mem_ofFn.trans (exists_congr fun _ => eq_comm)).imp fun _ h => h.1

/-- The hit, from the first place of the greatest value. -/
theorem hit_eq {f : Fin 100 → EReal} {k : Fin 100} (hk : IsFirstMax f k) (l : BitVec 32) :
    hit f l = if (k.val : ℤ) = l.toInt then 1 else 0 := by
  unfold hit
  by_cases h : (k.val : ℤ) = l.toInt
  · rw [if_pos ⟨k, hk, h⟩, if_pos h]
  · rw [if_neg h, if_neg]
    rintro ⟨j, hj, e⟩
    exact h (hj.eq hk ▸ e)

/-- The comparison of that place, as a word, to the label is the hit. -/
theorem hit_word {f : Fin 100 → EReal} {k : Fin 100} (hk : IsFirstMax f k) (l : BitVec 32) :
    (((BitVec.ofBool (BitVec.ofNat 32 k.val == l)).toNat : ℝ) : EReal) = hit f l := by
  rw [hit_eq hk]
  by_cases h : BitVec.ofNat 32 k.val = l
  · subst h; simp [toInt_place]
  · rw [if_neg fun e => h (BitVec.eq_of_toInt_eq ((toInt_place k).trans e)), beq_eq_false_iff_ne.mpr h]; simp

end Cert.Proof.Math

end
-- ==== Proof.Kernel.Pay.lean ====
/-  What the kernel's payloads are, element by element. -/
module

public import proofs.«01_k».proof.Proof.Gen.KernelIdeal.Skeleton
public import proofs.«01_k».proof.Proof.Math.ArgMax
public import Idealize.ShloMosaic.Lib.Pointwise

@[expose] public section

noncomputable section

namespace Cert.Proof.Ker

open Cert.KernelIdeal Cert.KernelIdeal.Gen Idealize.ShloMosaic Idealize.ShloMosaic.Pointwise

/-- Row `r` of a block of logits. -/
def blockRow (x : Vec Ideal S4000x100 .f32) (r : Fin 4000) (k : Fin 100) : EReal := x (ix2 r k)

/-- The word of minus infinity. -/
theorem neg_inf : Ideal.ofBits .f32 0xFF800000#32 = ⊥ := by simp [Ideal.ofBits, Ideal.ieee]
/-- The word of infinity. -/
theorem pos_inf : Ideal.ofBits .f32 0x7F800000#32 = ⊤ := by simp [Ideal.ofBits, Ideal.ieee]
/-- The word of a hundred. -/
theorem hundred : Ideal.ofBits .f32 0x42C80000#32 = ((100 : ℝ) : EReal) := by
  simp [Ideal.ofBits, Ideal.ieee, -EReal.coe_mul]; norm_num
/-- A truth value widened to a word and read as a number. -/
theorem truth (p : Prop) [Decidable p] :
    (FloatOps.sitofp (F := Ideal) .f32 (BitVec.setWidth 32 (BitVec.ofBool (decide p))) : EReal) = if p then 1 else 0 := by
  show (((BitVec.setWidth 32 (BitVec.ofBool (decide p))).toInt : ℝ) : EReal) = _
  by_cases hp : p <;> simp [hp]

/-- The greatest exponential of each row. -/
theorem pay6 (x : Vec Ideal S4000x100 .f32) (r : Fin 4000) :
    k0_pay6 x (ix2 r 0) = Finset.univ.sup (Math.expRow (blockRow x r)) := by
  pointwise [k0_pay6, k0_pay5]
  rw [neg_inf]; rfl

/-- The confidence of each row. -/
theorem pay7 (x : Vec Ideal S4000x100 .f32) (r : Fin 4000) :
    k0_pay7 x (ix2 r 0) = Math.confK (blockRow x r) := by
  pointwise [k0_pay7, k0_pay5]
  rw [pay6]; rfl

/-- The least place where a row takes its greatest value, found as the kernel does: the least of the places of the
    entries not below the maximum, every other entry counting as a hundred. -/
theorem least_place {f : Fin 100 → EReal} {k : Fin 100} (hk : Math.IsFirstMax f k) :
    Finset.fold min ⊤ (fun j : Fin 100 => if Finset.univ.sup f ≤ f j then ((j.val : ℝ) : EReal) else ((100 : ℝ) : EReal))
      Finset.univ = ((k.val : ℝ) : EReal) := by
  have hs : Finset.univ.sup f = f k := le_antisymm (Finset.sup_le fun j _ => hk.1 j) (Finset.le_sup (Finset.mem_univ k))
  rw [hs]
  show Finset.univ.inf _ = _
  refine le_antisymm ((Finset.inf_le (Finset.mem_univ k)).trans (by rw [if_pos le_rfl])) (Finset.le_inf fun j _ => ?_)
  split
  · next h => exact EReal.coe_le_coe_iff.mpr (Nat.cast_le.mpr (hk.2 j (le_antisymm (hk.1 j) h)))
  · exact EReal.coe_le_coe_iff.mpr (by exact_mod_cast k.isLt.le)

/-- The hit of each row, against a label given as a number. -/
theorem pay8 (x : Vec Ideal S4000x100 .f32) (y : Vec Ideal S1x1x4000 .f32) (r : Fin 4000) (l : BitVec 32)
    (hl : y (ix3 0 0 r) = ((l.toInt : ℝ) : EReal)) :
    k0_pay8 x y (ix2 r 0) = Math.hit (Math.expRow (blockRow x r)) l := by
  obtain ⟨k, hk⟩ := Math.exists_firstMax (Math.expRow (blockRow x r))
  pointwise [k0_pay8, k0_pay5]
  rw [truth, Math.hit_eq hk, hl, pay6, pos_inf, hundred]
  have e : ∀ j : Fin 100, (FloatOps.sitofp (F := Ideal) .f32 (BitVec.ofNat 32 j.val) : EReal) = ((j.val : ℝ) : EReal) := fun j => by
    show (((BitVec.ofNat 32 j.val).toInt : ℝ) : EReal) = _
    rw [Math.toInt_place]; rfl
  simp only [e]
  refine if_congr (Iff.trans (Eq.to_iff (congrArg (fun z : EReal => z = ((l.toInt : ℝ) : EReal)) (least_place hk))) ?_) rfl rfl
  rw [EReal.coe_eq_coe_iff, ← Int.cast_natCast, Int.cast_inj]

/-- Whether each row's confidence lies in each bin, as a number. -/
theorem pay9 (x : Vec Ideal S4000x100 .f32) (l h : Vec Ideal S1x15 .f32) (r : Fin 4000) (b : Fin 15) :
    k0_pay9 x l h (ix2 r b) = Math.inBin (l (ix2 0 b)) (h (ix2 0 b)) (Math.confK (blockRow x r)) := by
  pointwise [k0_pay9]
  rw [pay7, show IntOp.andi _ _ = BitVec.ofBool (decide (l (ix2 0 b) < Math.confK (blockRow x r) ∧
    Math.confK (blockRow x r) ≤ h (ix2 0 b))) from ?_, truth]
  · rfl
  · rw [Bool.decide_and]
    cases decide (l (ix2 0 b) < Math.confK (blockRow x r)) <;> cases decide (Math.confK (blockRow x r) ≤ h (ix2 0 b)) <;> rfl

/-- The column sums of the bin table. -/
theorem pay12 (x : Vec Ideal S4000x100 .f32) (l h : Vec Ideal S1x15 .f32) (b : Fin 15) :
    k0_pay12 x l h (ix2 0 b) = ∑ r : Fin 4000, k0_pay9 x l h (ix2 r b) := by
  pointwise [k0_pay12]

/-- A copy. -/
theorem pay11 (x : Vec Ideal S1x15 .f32) : k0_pay11 x = x := by
  funext j
  pointwise [k0_pay11]

/-- The confidences binned and added to the running row. -/
theorem pay2 (v6 : FVec Ideal S4000x1 .f32) (v31 : FVec Ideal S4000x15 .f32) (v41 : Vec Ideal S1x15 .f32) (b : Fin 15) :
    k0_pay2 v6 v31 v41 (ix2 0 b) = v41 (ix2 0 b) + ∑ r : Fin 4000, v6 (ix2 r 0) * v31 (ix2 r b) := by
  pointwise [k0_pay2]

/-- The hits binned and added to the running row. -/
theorem pay3 (v6 : FVec Ideal S4000x1 .f32) (v31 : FVec Ideal S4000x15 .f32) (v41 : Vec Ideal S1x15 .f32) (b : Fin 15) :
    k0_pay3 v6 v31 v41 (ix2 0 b) = v41 (ix2 0 b) + ∑ r : Fin 4000, v6 (ix2 r 0) * v31 (ix2 r b) := by
  pointwise [k0_pay3]

/-- The error from the three accumulated rows. -/
theorem pay4 (x : Vec Ideal S3x15 .f32) : k0_pay4 x (ix2 0 0) = ∑ b : Fin 15, Math.gap (x (ix2 0 b)) (x (ix2 2 b)) (x (ix2 1 b)) := by
  pointwise [k0_pay4]
  simp only [Math.gap, Ideal.ofBits_one_f32, Ideal.absf_def, Finset.univ_unique, Finset.sum_singleton]

/-- The new counts: the old and the block's. -/
theorem pay1 (x y : Vec Ideal S1x15 .f32) (b : Fin 15) :
    k0_pay1 (F := Ideal) x y (ix2 0 b) = x (ix2 0 b) + y (ix2 0 b) := by
  pointwise [k0_pay1]

/-- The rows before the first point. -/
theorem pay10 (j : S3x15.Idx) : k0_pay10 (F := Ideal) j = 0 := Ideal.ofBits_zero_f32

end Cert.Proof.Ker

end
-- ==== Proof.Kernel.Rows.lean ====
/-  Three stored rows, read back as one array. -/
module

public import proofs.«01_k».proof.Proof.Gen.KernelIdeal.Skeleton
public import Idealize.ShloMosaic.Lib.Pipeline.FrameBody
public import Idealize.ShloMosaic.Lib.Pointwise
public import Idealize.ShloMosaic.Lib.Pipeline.ReadBack
public import Idealize.ShloMosaic.Lib.Pipeline.ValueKit
public import Idealize.ShloMosaic.Lib.Pipeline.Value

@[expose] public section

noncomputable section

namespace Cert.Proof.Ker

open Cert.KernelIdeal Cert.KernelIdeal.Gen Idealize.ShloMosaic Idealize.ShloMosaic.TcCoe Idealize.SL.Sem
open Idealize.ShloMosaic.Pointwise

variable {F : FTy → Type} [FloatOps F]

/-- The rectangle of the first accumulated row. -/
abbrev rect0 : Rect S3x15 := Rect.unit ![0, 0] ![1, 15] inb_S3x15_S1x15_0_0
/-- The rectangle of the second row. -/
abbrev rect1 : Rect S3x15 := Rect.unit ![1, 0] ![1, 15] inb_S3x15_S1x15_1_0
/-- The rectangle of the third row. -/
abbrev rect2 : Rect S3x15 := Rect.unit ![2, 0] ![1, 15] inb_S3x15_S1x15_2_0

/-- Three rows as one array. -/
def rows (w0 w1 w2 : Vec F S1x15 .f32) : Vec F S3x15 .f32 := fun j =>
  if (j 0).val = 0 then w0 (ix2 0 (j 1)) else if (j 0).val = 1 then w1 (ix2 0 (j 1)) else w2 (ix2 0 (j 1))

/-- Row `k` is the rectangle from `(k, 0)` … -/
theorem row_emb (k : ℕ) (inb : ∀ a, (![k, 0] : Fin 2 → ℕ) a + (![1, 15] : Fin 2 → ℕ) a ≤ S3x15.size a) (r : Fin 3) (b : Fin 15)
    (hk : k = r.val) : (Rect.unit (s := S3x15) ![k, 0] ![1, 15] inb).emb (ix2 0 b : S1x15.Idx) = (ix2 r b : S3x15.Idx) := by
  funext a; apply Fin.ext
  match a with
  | ⟨0, _⟩ => show k + 1 * 0 = r.val; omega
  | ⟨1, _⟩ => show 0 + 1 * b.val = b.val; omega

/-- … and no other row meets it. -/
theorem row_not_mem (k : ℕ) (inb : ∀ a, (![k, 0] : Fin 2 → ℕ) a + (![1, 15] : Fin 2 → ℕ) a ≤ S3x15.size a) (r : Fin 3) (b : Fin 15)
    (hk : k ≠ r.val) : (ix2 r b : S3x15.Idx) ∉ (Rect.unit (s := S3x15) ![k, 0] ![1, 15] inb).set := fun hm => by
  have h : k ≤ r.val ∧ r.val < k + 1 := (Rect.mem_set_unit (s := S3x15)).mp hm 0
  omega

/-- What a stored row leaves in that row. -/
theorem canon_row (k : ℕ) (inb : ∀ a, (![k, 0] : Fin 2 → ℕ) a + (![1, 15] : Fin 2 → ℕ) a ≤ S3x15.size a) (r : Fin 3) (b : Fin 15)
    (hk : k = r.val) (w : Vec F S1x15 .f32) (L : List (View.Piece (Elt F) S3x15 .f32)) :
    View.canon (⟨Rect.unit (s := S3x15) ![k, 0] ![1, 15] inb, w⟩ :: L) (ix2 r b : S3x15.Idx) = w (ix2 0 b) :=
  (congrArg (View.canon (⟨Rect.unit (s := S3x15) ![k, 0] ![1, 15] inb, w⟩ :: L)) (row_emb k inb r b hk).symm).trans
    (View.canon_cons_emb (Rect.unit (s := S3x15) ![k, 0] ![1, 15] inb) w L (ix2 0 b : S1x15.Idx))

/-- What a stored row leaves in the others. -/
theorem canon_other (k : ℕ) (inb : ∀ a, (![k, 0] : Fin 2 → ℕ) a + (![1, 15] : Fin 2 → ℕ) a ≤ S3x15.size a) (r : Fin 3) (b : Fin 15)
    (hk : k ≠ r.val) (w : Vec F S1x15 .f32) (L : List (View.Piece (Elt F) S3x15 .f32)) :
    View.canon (⟨Rect.unit (s := S3x15) ![k, 0] ![1, 15] inb, w⟩ :: L) (ix2 r b : S3x15.Idx) = View.canon L (ix2 r b : S3x15.Idx) :=
  View.canon_cons_of_not_mem ⟨Rect.unit (s := S3x15) ![k, 0] ![1, 15] inb, w⟩ L (row_not_mem k inb r b hk)

/-- What three stored rows leave, whatever was stored before. -/
theorem canon_rows (w0 w1 w2 : Vec F S1x15 .f32) (L : List (View.Piece (Elt F) S3x15 .f32)) :
    View.canon (⟨rect2, w2⟩ :: ⟨rect1, w1⟩ :: ⟨rect0, w0⟩ :: L) = rows w0 w1 w2 := by
  have key (r : Fin 3) (b : Fin 15) :
      View.canon (⟨rect2, w2⟩ :: ⟨rect1, w1⟩ :: ⟨rect0, w0⟩ :: L) (ix2 r b : S3x15.Idx) = rows w0 w1 w2 (ix2 r b) := by
    match r with
    | 2 => exact canon_row 2 inb_S3x15_S1x15_2_0 2 b rfl w2 (⟨rect1, w1⟩ :: ⟨rect0, w0⟩ :: L)
    | 1 =>
      exact (canon_other 2 inb_S3x15_S1x15_2_0 1 b (by decide) w2 (⟨rect1, w1⟩ :: ⟨rect0, w0⟩ :: L)).trans
        (canon_row 1 inb_S3x15_S1x15_1_0 1 b rfl w1 (⟨rect0, w0⟩ :: L))
    | 0 =>
      exact (canon_other 2 inb_S3x15_S1x15_2_0 0 b (by decide) w2 (⟨rect1, w1⟩ :: ⟨rect0, w0⟩ :: L)).trans
        ((canon_other 1 inb_S3x15_S1x15_1_0 0 b (by decide) w1 (⟨rect0, w0⟩ :: L)).trans
          (canon_row 0 inb_S3x15_S1x15_0_0 0 b rfl w0 L))
  exact funext fun j => (congrArg _ (eq_ix2 j)).trans ((key (j 0) (j 1)).trans (congrArg _ (eq_ix2 j)).symm)

end Cert.Proof.Ker

end
-- ==== Proof.Kernel.Out.lean ====
/-  What a grid point leaves in the accumulated rows and, at the last point, in the result. -/
module

public import proofs.«01_k».proof.Proof.Gen.KernelIdeal.Frame
public import proofs.«01_k».proof.Proof.Kernel.Pay
public import proofs.«01_k».proof.Proof.Kernel.Rows
public import Idealize.ShloMosaic.Lib.Pipeline.ReadBack
public import Idealize.ShloMosaic.Lib.Pipeline.ValueKit
public import Idealize.ShloMosaic.Lib.Pipeline.Value

@[expose] public section

noncomputable section

namespace Cert.Proof.Ker

open Cert.KernelIdeal Cert.KernelIdeal.Gen Idealize.ShloMosaic Idealize.ShloMosaic.TcCoe Idealize.SL.Sem
open Idealize.ShloMosaic.Pointwise

variable {F : FTy → Type} [FloatOps F]

/-- One point's work on the accumulated rows: the counts, confidences and hits of its block of rows added on. -/
def step (x0 : Vec F S4000x100 .f32) (x1 : Vec F S1x1x4000 .f32) (x2 : Vec F S2x15 .f32) (xo : Vec F S3x15 .f32) : Vec F S3x15 .f32 :=
  rows
    (k0_pay1 (k0_pay11 (View.ld xo rect0)) (k0_pay12 x0 (View.ld x2 (Rect.unit ![0, 0] ![1, 15] inb_S2x15_S1x15_0_0))
      (View.ld x2 (Rect.unit ![1, 0] ![1, 15] inb_S2x15_S1x15_1_0))))
    (k0_pay2 (k0_pay7 x0) (k0_pay9 x0 (View.ld x2 (Rect.unit ![0, 0] ![1, 15] inb_S2x15_S1x15_0_0))
      (View.ld x2 (Rect.unit ![1, 0] ![1, 15] inb_S2x15_S1x15_1_0))) (View.ld xo rect1))
    (k0_pay3 (k0_pay8 x0 x1) (k0_pay9 x0 (View.ld x2 (Rect.unit ![0, 0] ![1, 15] inb_S2x15_S1x15_0_0))
      (View.ld x2 (Rect.unit ![1, 0] ![1, 15] inb_S2x15_S1x15_1_0))) (View.ld xo rect2))

/-- Two zero offsets are all zero. -/
theorem hz2 : (![0, 0] : Fin 2 → Nat) = fun _ => 0 := funext fun a => by fin_cases a <;> rfl
/-- So are three. -/
theorem hz3 : (![0, 0, 0] : Fin 3 → Nat) = fun _ => 0 := funext fun a => by fin_cases a <;> rfl

/-- A middle point leaves one step. -/
theorem out_B (c : Dev nD) (i : grid0.Coords) (arg1 : Memref sig .tc .vmem S4000x100 .f32) (harg1 : arg1.IsWhole)
    (arg2 : Memref sig .tc .vmem S1x1x4000 .f32) (harg2 : arg2.IsWhole) (arg3 : Memref sig .tc .vmem S2x15 .f32)
    (harg3 : arg3.IsWhole) (arg4 : Memref sig .tc .vmem S3x15 .f32) (harg4 : arg4.IsWhole)
    (arg5 : Memref sig .tc .vmem S1x1 .f32) (harg5 : arg5.IsWhole) (hc0 : ¬cond0_0 i) (hc1 : ¬cond0_1 i)
    (x0 : Vec F S4000x100 .f32) (x1 : Vec F S1x1x4000 .f32) (x2 : Vec F S2x15 .f32) (xo : Vec F S3x15 .f32) :
    out0_B_3 c i arg1 harg1 arg2 harg2 arg3 harg3 arg4 harg4 arg5 harg5 hc0 hc1 x0 x1 x2 xo = step x0 x1 x2 xo := by
  unfold out0_B_3
  rw [View.read_writes_junk_eq_canon]
  unfold kernelRun0_B
  dsimp only
  sl_unfold_words
  simp only [View.readAt_eq_ld, harg1.read_unread, harg2.read_unread, harg3.read_unread, harg4.read_unread,
    View.ld_unit_zero (S := S4000x100) hz2, View.ld_unit_zero (S := S1x1x4000) hz3]
  exact canon_rows _ _ _ _

/-- The last point leaves one step too. -/
theorem out_C (c : Dev nD) (i : grid0.Coords) (arg1 : Memref sig .tc .vmem S4000x100 .f32) (harg1 : arg1.IsWhole)
    (arg2 : Memref sig .tc .vmem S1x1x4000 .f32) (harg2 : arg2.IsWhole) (arg3 : Memref sig .tc .vmem S2x15 .f32)
    (harg3 : arg3.IsWhole) (arg4 : Memref sig .tc .vmem S3x15 .f32) (harg4 : arg4.IsWhole)
    (arg5 : Memref sig .tc .vmem S1x1 .f32) (harg5 : arg5.IsWhole) (hc0 : ¬cond0_0 i) (hc1 : cond0_1 i)
    (x0 : Vec F S4000x100 .f32) (x1 : Vec F S1x1x4000 .f32) (x2 : Vec F S2x15 .f32) (xo : Vec F S3x15 .f32) :
    out0_C_3 c i arg1 harg1 arg2 harg2 arg3 harg3 arg4 harg4 arg5 harg5 hc0 hc1 x0 x1 x2 xo = step x0 x1 x2 xo := by
  unfold out0_C_3
  rw [View.read_writes_junk_eq_canon]
  unfold kernelRun0_C
  dsimp only
  sl_unfold_words
  simp only [View.readAt_eq_ld, harg1.read_unread, harg2.read_unread, harg3.read_unread, harg4.read_unread,
    View.ld_unit_zero (S := S4000x100) hz2, View.ld_unit_zero (S := S1x1x4000) hz3]
  exact canon_rows _ _ _ _

/-- And in the result the error of the rows it leaves. -/
theorem out_C_result (c : Dev nD) (i : grid0.Coords) (arg1 : Memref sig .tc .vmem S4000x100 .f32) (harg1 : arg1.IsWhole)
    (arg2 : Memref sig .tc .vmem S1x1x4000 .f32) (harg2 : arg2.IsWhole) (arg3 : Memref sig .tc .vmem S2x15 .f32)
    (harg3 : arg3.IsWhole) (arg4 : Memref sig .tc .vmem S3x15 .f32) (harg4 : arg4.IsWhole)
    (arg5 : Memref sig .tc .vmem S1x1 .f32) (harg5 : arg5.IsWhole) (hc0 : ¬cond0_0 i) (hc1 : cond0_1 i)
    (x0 : Vec F S4000x100 .f32) (x1 : Vec F S1x1x4000 .f32) (x2 : Vec F S2x15 .f32) (xo : Vec F S3x15 .f32) :
    out0_C_4 c i arg1 harg1 arg2 harg2 arg3 harg3 arg4 harg4 arg5 harg5 hc0 hc1 x0 x1 x2 xo = k0_pay4 (step x0 x1 x2 xo) := by
  unfold out0_C_4
  rw [View.read_writes_junk_eq_canon]
  unfold kernelRun0_C
  dsimp only
  sl_unfold_words
  simp only [View.readAt_eq_ld, harg1.read_unread, harg2.read_unread, harg3.read_unread, harg4.read_unread,
    View.ld_unit_zero (S := S4000x100) hz2, View.ld_unit_zero (S := S1x1x4000) hz3]
  rw [View.canon_cons_unit_zero (S := S1x1) hz2, View.readCov_eq_canon_ld _ _ _ ?_]
  · rw [canon_rows, View.ld_unit_zero (S := S3x15) hz2]; rfl
  · exact View.cover_of_tiledBy _ ![1, 15] (by sl_kernel_rfl)

/-- The first point leaves one step from zero. -/
theorem out_A (c : Dev nD) (i : grid0.Coords) (arg1 : Memref sig .tc .vmem S4000x100 .f32) (harg1 : arg1.IsWhole)
    (arg2 : Memref sig .tc .vmem S1x1x4000 .f32) (harg2 : arg2.IsWhole) (arg3 : Memref sig .tc .vmem S2x15 .f32)
    (harg3 : arg3.IsWhole) (arg4 : Memref sig .tc .vmem S3x15 .f32) (harg4 : arg4.IsWhole)
    (arg5 : Memref sig .tc .vmem S1x1 .f32) (harg5 : arg5.IsWhole) (hc0 : cond0_0 i) (hc1 : ¬cond0_1 i)
    (x0 : Vec F S4000x100 .f32) (x1 : Vec F S1x1x4000 .f32) (x2 : Vec F S2x15 .f32) :
    out0_A_3 c i arg1 harg1 arg2 harg2 arg3 harg3 arg4 harg4 arg5 harg5 hc0 hc1 x0 x1 x2 = step x0 x1 x2 (k0_pay10 (F := F)) := by
  unfold out0_A_3
  rw [View.read_writes_junk_eq_canon]
  unfold kernelRun0_A
  dsimp only
  sl_unfold_words
  simp only [View.readAt_eq_ld, harg1.read_unread, harg2.read_unread, harg3.read_unread, harg4.read_unread,
    View.ld_unit_zero (S := S4000x100) hz2, View.ld_unit_zero (S := S1x1x4000) hz3]
  rw [View.readCov_skip arg4.view rect1 _ _ rect2.toLoadRect (by decide), View.readCov_skip arg4.view rect0 _ _ rect2.toLoadRect (by decide),
    View.readCov_skip arg4.view rect0 _ _ rect1.toLoadRect (by decide)]
  simp only [View.readCov_fill (s := S3x15) arg4.view inb_S3x15_S3x15_0_0 _ _ _ (by decide)]
  exact canon_rows _ _ _ _

/-! At the ideal instance, with `lo`/`hi` the two rows of bounds. -/

section
variable (x0 : Vec Ideal S4000x100 .f32) (x1 : Vec Ideal S1x1x4000 .f32) (x2 : Vec Ideal S2x15 .f32) (xo : Vec Ideal S3x15 .f32)

/-- A load of one row of the accumulated rows reads that row. -/
theorem ld_row (k : ℕ) (inb) (r : Fin 3) (hk : r.val = k) (b : Fin 15) :
    View.ld xo (Rect.unit (s := S3x15) ![k, 0] ![1, 15] inb) (ix2 0 b : S1x15.Idx) = xo (ix2 r b) := by
  refine congrArg xo (funext fun a => Fin.ext ?_)
  match a with
  | ⟨0, _⟩ => show k + 1 * 0 = r.val; omega
  | ⟨1, _⟩ => show 0 + 1 * b.val = b.val; omega

/-- A load of one row of the bounds reads that row. -/
theorem ld_bound (k : ℕ) (inb) (r : Fin 2) (hk : r.val = k) (b : Fin 15) :
    View.ld x2 (Rect.unit (s := S2x15) ![k, 0] ![1, 15] inb) (ix2 0 b : S1x15.Idx) = x2 (ix2 r b) := by
  refine congrArg x2 (funext fun a => Fin.ext ?_)
  match a with
  | ⟨0, _⟩ => show k + 1 * 0 = r.val; omega
  | ⟨1, _⟩ => show 0 + 1 * b.val = b.val; omega

/-- The counts after a step. -/
theorem step_count (b : Fin 15) : step x0 x1 x2 xo (ix2 0 b)
    = xo (ix2 0 b) + ∑ r, Math.inBin (x2 (ix2 0 b)) (x2 (ix2 1 b)) (Math.confK (blockRow x0 r)) := by
  show k0_pay1 _ _ (ix2 0 b) = _
  rw [pay1, pay11, pay12, ld_row xo 0 _ 0 rfl]
  simp only [pay9, ld_bound x2 0 _ 0 rfl, ld_bound x2 1 _ 1 rfl]

/-- The summed confidences after a step. -/
theorem step_conf (b : Fin 15) : step x0 x1 x2 xo (ix2 1 b)
    = xo (ix2 1 b) + ∑ r, Math.confK (blockRow x0 r) * Math.inBin (x2 (ix2 0 b)) (x2 (ix2 1 b)) (Math.confK (blockRow x0 r)) := by
  show k0_pay2 _ _ _ (ix2 0 b) = _
  rw [pay2, ld_row xo 1 _ 1 rfl]
  simp only [pay7, pay9, ld_bound x2 0 _ 0 rfl, ld_bound x2 1 _ 1 rfl]

/-- The summed hits after a step, the labels being the words `l`. -/
theorem step_acc (l : Fin 4000 → BitVec 32) (hl : ∀ r, x1 (ix3 0 0 r) = (((l r).toInt : ℝ) : EReal)) (b : Fin 15) :
    step x0 x1 x2 xo (ix2 2 b) = xo (ix2 2 b) + ∑ r, Math.hit (Math.expRow (blockRow x0 r)) (l r)
      * Math.inBin (x2 (ix2 0 b)) (x2 (ix2 1 b)) (Math.confK (blockRow x0 r)) := by
  show k0_pay3 _ _ _ (ix2 0 b) = _
  rw [pay3, ld_row xo 2 _ 2 rfl]
  simp only [pay8 x0 x1 _ _ (hl _), pay9, ld_bound x2 0 _ 0 rfl, ld_bound x2 1 _ 1 rfl]

end

end Cert.Proof.Ker

end
-- ==== Proof.Kernel.Value.lean ====
/-  What the kernel leaves: the error over all its rows. -/
module

public import proofs.«01_k».proof.Proof.Gen.KernelIdeal.Run
public import proofs.«01_k».proof.Proof.Kernel.Blocks
public import proofs.«01_k».proof.Proof.Kernel.Out

@[expose] public section

noncomputable section

namespace Cert.Proof.Ker

open Cert.KernelIdeal Cert.KernelIdeal.Gen Idealize.ShloMosaic Idealize.ShloMosaic.TcCoe Idealize.SL.Sem
open Idealize.ShloMosaic.Pipeline (Dat)
open Idealize.ShloMosaic.Pointwise

variable (m : (ℓ : Loc nD τ sig) → Buf (Elt Ideal) ℓ) (c : Dev nD)

/-- Row `n`'s confidence, as the kernel finds it. -/
def confN (n : ℕ) : EReal := Math.confK (rowN m c n)
/-- Row `n`'s hit, as the kernel finds it. -/
def accN (n : ℕ) : EReal := Math.hit (Math.expRow (rowN m c n)) (labelN m c n)

/-- The accumulated rows hold the sums over the first `N` rows of logits. -/
def Sums (N : ℕ) (o : Vec Ideal S3x15 .f32) : Prop := ∀ b : Fin 15,
  o (ix2 0 b) = ∑ n ∈ Finset.range N, Math.bin b (confN m c n)
  ∧ o (ix2 1 b) = ∑ n ∈ Finset.range N, confN m c n * Math.bin b (confN m c n)
  ∧ o (ix2 2 b) = ∑ n ∈ Finset.range N, accN m c n * Math.bin b (confN m c n)

/-- A sum over the first rows, with one block more. -/
theorem sum_block (f : ℕ → EReal) (t : ℕ) :
    ∑ n ∈ Finset.range (4000 * t), f n + ∑ r : Fin 4000, f (4000 * t + r.val) = ∑ n ∈ Finset.range (4000 * (t + 1)), f n := by
  rw [Nat.mul_succ, Finset.sum_range_add, Finset.sum_range fun i => f (4000 * t + i)]

/-- Row `r` of point `t`'s block. -/
theorem blockRow_eq (t : Fin cfg0.N) (r : Fin 4000) :
    blockRow (iblk m c 0 t) r = rowN m c (4000 * t.val + r.val) := funext fun k => iblk0 m c t r k

/-- One point adds its block. -/
theorem step_sums (t : Fin cfg0.N) (xo : Vec Ideal S3x15 .f32) (h : Sums m c (4000 * t.val) xo) :
    Sums m c (4000 * (t.val + 1)) (step (F := Ideal) (iblk m c 0 t) (iblk m c 1 t) (iblk m c 2 t) xo) := fun b => by
  obtain ⟨h0, h1, h2⟩ := h b
  refine ⟨?_, ?_, ?_⟩
  · rw [step_count, h0, ← sum_block (fun n => Math.bin b (confN m c n))]
    simp only [blockRow_eq, iblk2_lo, iblk2_hi]
    rfl
  · rw [step_conf, h1, ← sum_block (fun n => confN m c n * Math.bin b (confN m c n))]
    simp only [blockRow_eq, iblk2_lo, iblk2_hi]
    rfl
  · rw [step_acc (iblk m c 0 t) (iblk m c 1 t) (iblk m c 2 t) xo (fun r => labelN m c (4000 * t.val + r.val)) (fun r => iblk1 m c t r), h2,
      ← sum_block (fun n => accN m c n * Math.bin b (confN m c n))]
    simp only [blockRow_eq, iblk2_lo, iblk2_hi]
    rfl

/-- Before the first point nothing is summed. -/
theorem zero_sums : Sums m c (4000 * 0) (k0_pay10 (F := Ideal)) := fun b => by
  simp [pay10]

/-- After point `n` the accumulated rows hold the sums over its block and all before. -/
theorem outs_sums : ∀ (n : ℕ) (h : n < cfg0.N), Sums m c (4000 * (n + 1)) (outsAt0 m c n h).1
  | 0, h => by
    have e : (outsAt0 m c 0 h).1 = step (F := Ideal) (iblk m c 0 ⟨0, h⟩) (iblk m c 1 ⟨0, h⟩) (iblk m c 2 ⟨0, h⟩) (k0_pay10 (F := Ideal)) := by
      have h1 : ¬(⟨0, h⟩ : Fin cfg0.N).val % 125 = 124 := fun h => absurd (show 0 % 125 = 124 from h) (by decide)
      rw [outsAt0_A m c ⟨0, h⟩ rfl h1, out_A]
    rw [e]
    exact step_sums m c ⟨0, h⟩ _ (zero_sums m c)
  | n + 1, h => by
    have hN : cfg0.N = 125 := N_0
    have ih := outs_sums n (Nat.lt_of_succ_lt h)
    have e : (outsAt0 m c (n + 1) h).1 = step (F := Ideal) (iblk m c 0 ⟨n + 1, h⟩) (iblk m c 1 ⟨n + 1, h⟩) (iblk m c 2 ⟨n + 1, h⟩)
        (outsAt0 m c n (Nat.lt_of_succ_lt h)).1 := by
      have h0 : ¬(⟨n + 1, h⟩ : Fin cfg0.N).val % 125 = 0 := by dsimp only; omega
      by_cases h1 : (⟨n + 1, h⟩ : Fin cfg0.N).val % 125 = 124
      · rw [outsAt0_C m c ⟨n + 1, h⟩ h0 h1, out_C]; rfl
      · rw [outsAt0_B m c ⟨n + 1, h⟩ h0 h1, out_B]; rfl
    rw [e]
    exact step_sums m c ⟨n + 1, h⟩ _ ih

/-- The error over all the rows. -/
def total : EReal := Math.ece (fun n : Fin 500000 => confN m c n.val) (fun n => accN m c n.val)

/-- What the rows' sums over everything give. -/
theorem result_of_sums (o : Vec Ideal S3x15 .f32) (h : Sums m c 500000 o) : k0_pay4 o (ix2 0 0) = total m c := by
  rw [pay4]
  unfold total Math.ece
  refine Finset.sum_congr rfl fun b _ => ?_
  obtain ⟨h0, h1, h2⟩ := h b
  rw [h0, h1, h2, Finset.sum_range, Finset.sum_range, Finset.sum_range]

/-- The last point. -/
abbrev last : Fin cfg0.N := ⟨124, by rw [show cfg0.N = 125 from N_0]; decide⟩

/-- The result's block after the last point. -/
theorem outs_last : (outsAt0 m c (last).val (last).isLt).2 = fun _ => total m c := by
  have h123 : 123 < cfg0.N := by rw [show cfg0.N = 125 from N_0]; decide
  have e : (outsAt0 m c (last).val (last).isLt).2 = k0_pay4 (step (F := Ideal) (iblk m c 0 last) (iblk m c 1 last) (iblk m c 2 last)
      (outsAt0 m c 123 h123).1) := by
    rw [outsAt0_C m c last (by decide) (by decide), out_C_result]; rfl
  rw [e]
  funext j
  have h0 : (j 0).val < 1 := (j 0).isLt
  have h1 : (j 1).val < 1 := (j 1).isLt
  have hj : j = ix2 0 0 := funext fun a => Fin.ext (by
    match a with
    | ⟨0, _⟩ => show (j 0).val = 0; omega
    | ⟨1, _⟩ => show (j 1).val = 0; omega)
  rw [hj]
  exact result_of_sums m c _ (step_sums m c last _ (outs_sums m c 123 h123))

/-- The one write-back writes it. -/
theorem flushed_eq (t : Fin cfg0.N) (hf : (cfg0.win 4).flush t = true) :
    (dats m 0 c).flushed 4 t = ((cfg0.win 4).blk t).view.read (Elt Ideal) (fun _ => total m c) := by
  have hN : cfg0.N = 125 := N_0
  have h3 : t.val = 124 := by have := (flush0_4 t).mp hf; have := t.isLt; omega
  obtain rfl : t = last := Fin.ext h3
  show (cfg0.win 4).cut (grid0.coords last) ((dats m 0 c).after 4 last) = _
  rw [after0_4, outs_last]
  rfl

/-- So the result array ends holding the error over all the rows. -/
theorem final_ece : Cert.KernelIdeal.Value.reg_main_v2_1 m c = fun _ => total m c :=
  (dats m 0 c).arrAt_eq_of_cover 4 (fun _ => total m c) (flushed_eq m c) fun i =>
    ⟨last, (flush0_4 last).mpr rfl, by
      show i ∈ ((View.whole main_v2_1).slice (win0_4.rect last)).set
      rw [View.set_slice_whole, Rect.mem_set_unit]
      intro a
      have h0 : (i 0 : Nat) < 1 := (i 0).isLt
      have h1 : (i 1 : Nat) < 1 := (i 1).isLt
      match a with
      | ⟨0, _⟩ => show win0_4.index last 0 * win0_4.size 0 ≤ (i 0 : Nat) ∧ (i 0 : Nat) < win0_4.index last 0 * win0_4.size 0 + win0_4.xsize (grid0.coords last) 0
                  rw [show win0_4.index last 0 * win0_4.size 0 = 0 from by decide +kernel, show win0_4.xsize (grid0.coords last) 0 = 1 from by decide +kernel]; omega
      | ⟨1, _⟩ => show win0_4.index last 1 * win0_4.size 1 ≤ (i 1 : Nat) ∧ (i 1 : Nat) < win0_4.index last 1 * win0_4.size 1 + win0_4.xsize (grid0.coords last) 1
                  rw [show win0_4.index last 1 * win0_4.size 1 = 0 from by decide +kernel, show win0_4.xsize (grid0.coords last) 1 = 1 from by decide +kernel]; omega⟩

/-- The kernel's run: its result is the error over all the rows, its arguments are unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v3) = (fun _ => total m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by rw [final_ece]; rfl), (h c).2⟩) (Cert.KernelIdeal.Value.run m ρ)

end Cert.Proof.Ker

end
-- ==== Proof.Math.Row.lean ====
/-  One row: the reference's softmax and the kernel's plain exponentials give the same confidence and the same first
    maximum, or confidences that lie in no bin. -/
module

public import proofs.«01_k».proof.Proof.Math.Spec

@[expose] public section

noncomputable section

namespace Cert.Proof.Math

open Idealize.ShloMosaic

/-- The supremum of finitely many values is one that is attained and above all. -/
theorem sup_eq {f : Fin 100 → EReal} {v : EReal} (h : ∀ k, f k ≤ v) (j : Fin 100) (hj : f j = v) : Finset.univ.sup f = v :=
  le_antisymm (Finset.sup_le fun k _ => h k) (hj ▸ Finset.le_sup (Finset.mem_univ j))

/-- The supremum of a row is attained. -/
theorem exists_sup (f : Fin 100 → EReal) : ∃ j, f j = Finset.univ.sup f := by
  obtain ⟨j, _, h⟩ := Finset.exists_mem_eq_sup Finset.univ ⟨0, Finset.mem_univ _⟩ f
  exact ⟨j, h.symm⟩

/-- No entry is above the supremum. -/
theorem le_sup (f : Fin 100 → EReal) (k : Fin 100) : f k ≤ Finset.univ.sup f := Finset.le_sup (Finset.mem_univ k)

/-- A quotient of reals off zero is the real quotient. -/
theorem div_coe {a b : ℝ} (hb : b ≠ 0) : Ideal.div (a : EReal) (b : EReal) = ((a / b : ℝ) : EReal) := by
  rw [Ideal.div, if_neg (by exact_mod_cast hb), ← EReal.coe_inv, ← EReal.coe_mul, div_eq_mul_inv]

/-- The sum of reals is the real sum. -/
theorem coe_sum (a : Fin 100 → ℝ) : ∑ k, (a k : EReal) = ((∑ k, a k : ℝ) : EReal) :=
  (map_sum (⟨⟨fun r : ℝ => (r : EReal), EReal.coe_zero⟩, EReal.coe_add⟩ : ℝ →+ EReal) a Finset.univ).symm

/-- An exponential is not negative. -/
theorem exp_nonneg (v : EReal) : 0 ≤ Ideal.exp v := by
  induction v using EReal.rec with
  | bot => exact le_rfl
  | top => exact le_top
  | coe r => rw [Ideal.exp_coe]; exact_mod_cast (Real.exp_pos r).le

/-- A row whose maximum is a real: both sides are the same real quotients. -/
theorem row_real (x : Fin 100 → EReal) (m : ℝ) (hm : Finset.univ.sup x = (m : EReal)) :
    confR x = confK x ∧ ∀ j, IsFirstMax (softRow x) j ↔ IsFirstMax (expRow x) j := by
  have hx : ∀ k, ∃ a : ℝ, 0 ≤ a ∧ Ideal.exp (x k) = (a : EReal) ∧ Ideal.exp (x k - (m : EReal)) = ((a * Real.exp (-m) : ℝ) : EReal) := by
    intro k
    have hk : x k ≤ (m : EReal) := hm ▸ le_sup x k
    generalize x k = v at hk
    induction v using EReal.rec with
    | bot => exact ⟨0, le_rfl, rfl, by rw [EReal.bot_sub]; simp⟩
    | top => exact absurd hk (not_le.mpr (EReal.coe_lt_top m))
    | coe r =>
      refine ⟨Real.exp r, (Real.exp_pos r).le, rfl, ?_⟩
      rw [← EReal.coe_sub, Ideal.exp_coe, sub_eq_add_neg, Real.exp_add]
  choose a ha he hs using hx
  obtain ⟨j₀, hj₀⟩ := exists_sup (expRow x)
  have hpos : 0 < ∑ k, a k := by
    obtain ⟨j, hj⟩ := exists_sup x
    refine lt_of_lt_of_le ?_ (Finset.single_le_sum (fun k _ => ha k) (Finset.mem_univ j))
    have h := he j
    rw [hj, hm, Ideal.exp_coe] at h
    rw [← EReal.coe_eq_coe_iff.mp h]; exact Real.exp_pos m
  have hS : (∑ k, a k) ≠ 0 := hpos.ne'
  have hsoft : ∀ k, softRow x k = ((a k / ∑ k, a k : ℝ) : EReal) := by
    intro k
    have hE : Real.exp (-m) ≠ 0 := (Real.exp_pos _).ne'
    rw [softRow, hm, hs k, Finset.sum_congr rfl fun k _ => hs k, coe_sum, ← Finset.sum_mul, div_coe (mul_ne_zero hS hE),
      mul_div_mul_right _ _ hE]
  have hexp : ∀ k, expRow x k = (a k : EReal) := he
  have hle : ∀ k j, softRow x k ≤ softRow x j ↔ expRow x k ≤ expRow x j := by
    intro k j
    rw [hsoft, hsoft, hexp, hexp, EReal.coe_le_coe_iff, EReal.coe_le_coe_iff, div_le_div_iff_of_pos_right hpos]
  have heq : ∀ k j, softRow x k = softRow x j ↔ expRow x k = expRow x j := fun k j => by
    rw [le_antisymm_iff, le_antisymm_iff, hle, hle]
  refine ⟨?_, fun j => ?_⟩
  · have h1 : ∀ k, softRow x k ≤ softRow x j₀ := fun k => (hle k j₀).mpr (hj₀ ▸ le_sup _ k)
    rw [confR, sup_eq h1 j₀ rfl, confK, ← hj₀, hsoft, hexp, Finset.sum_congr rfl fun k _ => hexp k, coe_sum, div_coe hS]
  · simp only [IsFirstMax, hle, heq]

/-- A row of only `-∞`: both confidences are the junk `-∞`. -/
theorem row_bot (x : Fin 100 → EReal) (hm : Finset.univ.sup x = ⊥) : confR x ≤ 0 ∧ confK x ≤ 0 := by
  have hx : ∀ k, x k = ⊥ := fun k => le_bot_iff.mp (hm ▸ le_sup x k)
  have h0 : ∀ k, Ideal.exp (x k - Finset.univ.sup x) = 0 := fun k => by rw [hx k, EReal.bot_sub]; rfl
  have h1 : ∀ k, expRow x k = 0 := fun k => by rw [expRow, hx k]; rfl
  refine ⟨?_, ?_⟩
  · refine Finset.sup_le fun k _ => ?_
    rw [softRow, h0, Finset.sum_congr rfl fun k _ => h0 k]; simp [Ideal.div]
  · rw [confK, sup_eq (fun k => (h1 k).le) 0 (h1 0), Finset.sum_congr rfl fun k _ => h1 k]; simp [Ideal.div]

/-- A row holding `+∞`: the kernel's confidence is `∞ / ∞ = 0`, the reference's the junk `0 / 0`. -/
theorem row_top (x : Fin 100 → EReal) (hm : Finset.univ.sup x = ⊤) : confR x ≤ 0 ∧ confK x ≤ 0 := by
  have h0 : ∀ k, Ideal.exp (x k - Finset.univ.sup x) = 0 := fun k => by
    rw [hm]; generalize x k = v
    induction v using EReal.rec with
    | bot => rfl
    | top => rfl
    | coe r => rfl
  obtain ⟨j, hj⟩ := exists_sup x
  have hj' : expRow x j = ⊤ := by rw [expRow, hj, hm]; rfl
  have hS : ∑ k, expRow x k = ⊤ := top_le_iff.mp
    (hj' ▸ Finset.single_le_sum (f := expRow x) (fun k _ => exp_nonneg (x k)) (Finset.mem_univ j))
  refine ⟨?_, ?_⟩
  · refine Finset.sup_le fun k _ => ?_
    rw [softRow, h0, Finset.sum_congr rfl fun k _ => h0 k]; simp [Ideal.div]
  · rw [confK, hS]; simp [Ideal.div]

/-- Every row: equal confidences and first maxima, or confidences not above zero on both sides. -/
theorem row_cases (x : Fin 100 → EReal) :
    (confR x = confK x ∧ ∀ j, IsFirstMax (softRow x) j ↔ IsFirstMax (expRow x) j) ∨ (confR x ≤ 0 ∧ confK x ≤ 0) := by
  generalize hm : Finset.univ.sup x = m
  induction m using EReal.rec with
  | bot => exact .inr (row_bot x hm)
  | top => exact .inr (row_top x hm)
  | coe r => exact .inl (row_real x r hm)

/-- No bin reaches below zero. -/
theorem lo_nonneg (i : Fin 15) : 0 ≤ lo i := by
  fin_cases i <;> simp [lo, loWord, Ideal.ofBits, Ideal.ieee, -EReal.coe_mul] <;> norm_num

/-- A confidence not above zero lies in no bin. -/
theorem bin_of_nonpos (i : Fin 15) {c : EReal} (hc : c ≤ 0) : bin i c = 0 :=
  if_neg fun h => absurd h.1 (not_lt.mpr (hc.trans (lo_nonneg i)))

/-- The two sides' confidences and hits contribute the same to every sum of every bin. -/
theorem row_bin (x : Fin 100 → EReal) (l : BitVec 32) (i : Fin 15) :
    bin i (confR x) = bin i (confK x)
    ∧ hit (softRow x) l * bin i (confR x) = hit (expRow x) l * bin i (confK x)
    ∧ confR x * bin i (confR x) = confK x * bin i (confK x) := by
  rcases row_cases x with ⟨hc, hj⟩ | ⟨hr, hk⟩
  · have hh : hit (softRow x) l = hit (expRow x) l := by
      unfold hit; rw [show IsFirstMax (softRow x) = IsFirstMax (expRow x) from funext fun j => propext (hj j)]
    rw [hc, hh]; exact ⟨rfl, rfl, rfl⟩
  · rw [bin_of_nonpos i hr, bin_of_nonpos i hk]; simp

/-- So the two sides' errors agree, over any rows. -/
theorem ece_eq {ι : Type} [Fintype ι] (x : ι → Fin 100 → EReal) (l : ι → BitVec 32) :
    ece (fun r => confR (x r)) (fun r => hit (softRow (x r)) (l r))
      = ece (fun r => confK (x r)) (fun r => hit (expRow (x r)) (l r)) := by
  unfold ece
  refine Finset.sum_congr rfl fun i _ => ?_
  rw [Finset.sum_congr rfl fun r _ => (row_bin (x r) (l r) i).1, Finset.sum_congr rfl fun r _ => (row_bin (x r) (l r) i).2.1,
    Finset.sum_congr rfl fun r _ => (row_bin (x r) (l r) i).2.2]

end Cert.Proof.Math

end
-- ==== Proof.Reference.Bins.lean ====
/-  The reference's bins: what each adds to the error, and the error after the last. -/
module

public import proofs.«01_k».proof.Proof.Reference.Run

@[expose] public section

noncomputable section

namespace Cert.Proof.Ref

open Cert.ReferenceIdeal Cert.ReferenceIdeal.Gen Idealize.ShloMosaic Idealize.ShloMosaic.TcCoe Idealize.SL.Sem
  Idealize.ShloMosaic.StableHlo Cert.Proof.Ssa

/-- The sum over all rows from zero, at the one index of the result. -/
theorem reduceAll (x : FVec Ideal S500000 .f32) :
    Host.reduceAdd x (constant S_ .f32 0x00000000#32) reducesTo_S500000_S_d0 h_S_ = fun _ => ∑ j, x j := by
  funext k
  show Ideal.hostReduceAdd _ x (Ideal.ofBits .f32 0x00000000#32) k = _
  rw [Ideal.hostReduceAdd_total _ (fun b => b.elim0), Ideal.ofBits_zero_f32, zero_add]

/-- A comparison's bit read as a number. -/
theorem bit_eq (p q : Prop) [Decidable p] [Decidable q] :
    (((IntOp.andi (BitVec.ofBool (decide p)) (BitVec.ofBool (decide q))).toNat : ℝ) : EReal) = if p ∧ q then 1 else 0 := by
  by_cases hp : p <;> by_cases hq : q <;> simp [hp, hq, IntOp.andi]

/-- A bin's last operations, at its one index: the gap. -/
theorem gap_eq (n a c : EReal) :
    Scalar.select (FloatOps.cmpf (F := Ideal) (φ := .f32) .ogt n (FloatOps.ofBits .f32 0x00000000#32))
      (FloatOps.mulf (F := Ideal) (φ := .f32) (FloatOps.absf (F := Ideal) (φ := .f32) (FloatOps.subf (F := Ideal) (φ := .f32)
        (FloatOps.divf (F := Ideal) (φ := .f32) c (FloatOps.maximumf (F := Ideal) (φ := .f32) n (FloatOps.ofBits .f32 0x3F800000#32)))
        (FloatOps.divf (F := Ideal) (φ := .f32) a (FloatOps.maximumf (F := Ideal) (φ := .f32) n (FloatOps.ofBits .f32 0x3F800000#32)))))
        (FloatOps.divf (F := Ideal) (φ := .f32) n (FloatOps.ofBits .f32 0x48F42400#32)))
      (FloatOps.ofBits (F := Ideal) .f32 0x00000000#32) = Math.gap n a c := by
  simp only [Ideal.ofBits_def, Ideal.ofBits_zero_f32, Ideal.cmpf_def, Ideal.cmp, Math.gap]
  by_cases hn : 0 < n
  · rw [if_pos hn, decide_eq_true hn]; rfl
  · rw [if_neg hn, decide_eq_false hn]; rfl

variable {W : Valuation τ sig (Elt Ideal)}

/-- The rows' confidences. -/
def confOf (W : Valuation τ sig (Elt Ideal)) (j : S500000.Idx) : EReal := get W tConf j

/-- The rows' hits, as numbers. -/
def accOf (W : Valuation τ sig (Elt Ideal)) (j : S500000.Idx) : EReal := ((get W tHit j).toNat : ℝ)

/-- What bin `i` adds to the error. -/
def share (W : Valuation τ sig (Elt Ideal)) (i : Fin 15) : EReal :=
  Math.gap (∑ j, Math.bin i (confOf W j)) (∑ j, accOf W j * Math.bin i (confOf W j))
    (∑ j, confOf W j * Math.bin i (confOf W j))

/-- Bin `i`'s operations add its share to the sum so far. -/
theorem bin_value (i : Fin 15) (hW : (binOps i : List (HloOp τ sig (Elt Ideal))).Forall (Holds W)) :
    get W (sumLoc (i.val + 1) (by omega)) = fun k => get W (sumLoc i.val (by omega)) k + share W i := by
  obtain ⟨h0, h1, h2, h3, h4, h5, h6, h7, h8, h9, h10, h11, h12, h13, h14, h15, h16, h17, h18, h19, h20, h21, h22, h23, h24,
    h25, h26, h27, h28, h29, h30, h31, h32⟩ := hW
  have m7 : get W (loc (T := ⟨S500000, .f32⟩) i 7) = fun j => Math.bin i (confOf W j) := by
    rw [h7.unary, h6.binary, h2.binary, h5.binary, h1.unary, h4.unary, h0.nullary, h3.nullary]
    funext j
    exact bit_eq _ _
  have m9 : get W (loc (T := ⟨S_, .f32⟩) i 9) = fun _ => ∑ j, Math.bin i (confOf W j) := by
    rw [h9.binary, h8.nullary, reduceAll, m7]
  have m17 : get W (loc (T := ⟨S_, .f32⟩) i 17) = fun _ => ∑ j, accOf W j * Math.bin i (confOf W j) := by
    rw [h17.binary, h16.nullary, reduceAll, h15.binary, h14.unary, m7]; rfl
  have m21 : get W (loc (T := ⟨S_, .f32⟩) i 21) = fun _ => ∑ j, confOf W j * Math.bin i (confOf W j) := by
    rw [h21.binary, h20.nullary, reduceAll, h19.binary, m7]; rfl
  have m30 : get W (loc (T := ⟨S_, .f32⟩) i 30) = fun _ => share W i := by
    rw [h30.ternary, h29.unary, h28.nullary, h27.binary, h26.nullary, h25.binary, h24.unary, h23.binary, h22.binary, h18.binary,
      h13.binary, h12.nullary, h11.binary, h10.nullary, m9, m17, m21]
    funext k
    exact gap_eq _ _ _
  rw [h32.binary, h31.unary, m30]; rfl

/-- The error after `n` bins: the shares of those bins, summed. -/
theorem sum_value (hW : ∀ op ∈ (ops : List (HloOp τ sig (Elt Ideal))), Holds W op) (n : ℕ) (hn : n < 16) :
    get W (sumLoc n hn) = fun _ => ∑ i : Fin n, share W ⟨i.val, by omega⟩ := by
  induction n with
  | zero =>
    have h := List.forall_iff_forall_mem.mpr fun op ho => hW op (mem_ops_of_head ho)
    obtain ⟨-, -, -, -, -, -, -, -, -, -, -, -, -, -, -, -, -, -, -, -, -, -, h22, h23⟩ := h
    rw [h23.unary, h22.nullary]
    funext k
    show Ideal.ofBits .f32 0x00000000#32 = _
    rw [Ideal.ofBits_zero_f32]; simp
  | succ n ih =>
    rw [bin_value ⟨n, by omega⟩ (List.forall_iff_forall_mem.mpr fun op ho => hW op (mem_ops_of_bin _ ho)), ih (by omega)]
    funext k
    rw [Fin.sum_univ_castSucc]; rfl

/-- The reference's result: the calibration error of the confidences and hits it computed. -/
theorem result_value (hW : ∀ op ∈ (ops : List (HloOp τ sig (Elt Ideal))), Holds W op) :
    W (Proc.devRef .tc main_v359) = fun _ => Math.ece (confOf W) (accOf W) :=
  sum_value hW 15 (by decide)

end Cert.Proof.Ref

end
-- ==== Proof.Reference.Head.lean ====
/-  The reference's rows: the softmax of each, its greatest entry (the confidence) and whether the first place of it is
    the label (the hit). -/
module

public import proofs.«01_k».proof.Proof.Reference.Bins
public import proofs.«01_k».proof.Proof.Math.ArgMax
public import Idealize.ShloMosaic.Lib.ValueIdxCore

@[expose] public section

noncomputable section

namespace Cert.Proof.Ref

open Cert.ReferenceIdeal Cert.ReferenceIdeal.Gen Idealize.ShloMosaic Idealize.ShloMosaic.TcCoe Idealize.SL.Sem
  Idealize.ShloMosaic.StableHlo Idealize.ShloMosaic.ValueIdx Cert.Proof.Ssa

/-- A row of logits reduces to one number. -/
theorem reduces_row : S500000x100.Reduces [1] S500000 := by decide

/-- The index over row `j` at place `k`. -/
theorem lift_row (j : S500000.Idx) (k : Fin 100) : reduces_row.lift j k = ix2 (j 0) k := by
  funext d; match d with | ⟨0, _⟩ => rfl | ⟨1, _⟩ => rfl

/-- The word of minus infinity. -/
theorem neg_inf : Ideal.ofBits .f32 0xFF800000#32 = ⊥ := by simp [Ideal.ofBits, Ideal.ieee]

/-- The maximum over a row, from minus infinity. -/
theorem rowMax (x : FVec Ideal S500000x100 .f32) :
    Host.reduce FloatOps.maximumf x (constant S_ .f32 0xFF800000#32) reducesTo_S500000x100_S500000_d1 h_S_
      = fun j => Finset.univ.sup fun k : Fin 100 => x (ix2 (j 0) k) := by
  funext j
  rw [Host.reduce_eq_fold_single _ _ _ _ reduces_row]
  show Finset.fold max (Ideal.ofBits .f32 0xFF800000#32) (x ∘ reduces_row.lift j) Finset.univ = _
  rw [neg_inf, show x ∘ reduces_row.lift j = fun k : Fin 100 => x (ix2 (j 0) k) from
    funext fun k => congrArg x (lift_row j k)]
  rfl

/-- The sum over a row, from zero. -/
theorem rowSum (x : FVec Ideal S500000x100 .f32) :
    Host.reduceAdd x (constant S_ .f32 0x00000000#32) reducesTo_S500000x100_S500000_d1 h_S_
      = fun j => ∑ k : Fin 100, x (ix2 (j 0) k) := by
  funext j
  show Ideal.hostReduceAdd _ x (Ideal.ofBits .f32 0x00000000#32) j = _
  rw [Ideal.hostReduceAdd_single _ reduces_row, Ideal.ofBits_zero_f32, zero_add]
  exact Finset.sum_congr rfl fun k _ => congrArg x (lift_row j k)

/-- The row argmax is the first place of the row's greatest value. -/
theorem rowArg (x : FVec Ideal S500000x100 .f32) (j : S500000.Idx) :
    ∃ k, Math.IsFirstMax (fun k => x (ix2 (j 0) k)) k
      ∧ (Host.argReduce reducer_argmax_f32_i32 x (iotaInDim S500000x100 32 1) (constant S_ .f32 0xFF800000#32)
          (constantI S_ 32 0#32) reducesTo_S500000x100_S500000_d1 h_S_ j).2 = BitVec.ofNat 32 k.val := by
  rw [Ideal.argReduce_eq_reduce2, Host.reduce2_eq_foldl_fiber]
  have hi : ((constant S_ .f32 0xFF800000#32 : FVec Ideal S_ .f32) (Shape.Idx.first h_S_),
      (constantI S_ 32 0#32) (Shape.Idx.first h_S_)) = ((⊥ : EReal), 0#32) := Prod.ext neg_inf rfl
  rw [hi]
  refine Math.argmax_row _ _ fun p => ?_
  simp only [Host.argReduceFiber, List.mem_map, List.mem_filter, List.mem_finRange, true_and, decide_eq_true_eq]
  rw [Shape.ReducesTo.drop_eq_drop _ reduces_row]
  constructor
  · rintro ⟨n, hn, rfl⟩
    refine ⟨S500000x100.rowMajor.symm n 1, ?_⟩
    have e := reduces_row.lift_drop (S500000x100.rowMajor.symm n)
    rw [hn] at e
    exact Prod.ext (congrArg x (e.symm.trans (lift_row j _))) rfl
  · rintro ⟨k, rfl⟩
    refine ⟨S500000x100.rowMajor (ix2 (j 0) k), ?_, ?_⟩
    · rw [Equiv.symm_apply_apply]; exact (congrArg reduces_row.drop (lift_row j k)).symm.trans (reduces_row.drop_lift j k)
    · rw [Equiv.symm_apply_apply]; rfl

variable {W : Valuation τ sig (Elt Ideal)}

/-- Row `n` of the logits. -/
def rowOf (W : Valuation τ sig (Elt Ideal)) (n : Fin 500000) (k : Fin 100) : EReal :=
  get W (.of (T := ⟨S500000x100, .f32⟩) main_arg0) (ix2 n k)

/-- Row `n`'s label. -/
def labelOf (W : Valuation τ sig (Elt Ideal)) (n : Fin 500000) : BitVec 32 :=
  get W (.of (T := ⟨S500000, .i32⟩) main_arg1) (ix1 n)

/-- The rows' confidences and hits. -/
theorem head_value (hW : ∀ op ∈ (ops : List (HloOp τ sig (Elt Ideal))), Holds W op) :
    (confOf W = fun j => Math.confR (rowOf W (j 0)))
      ∧ accOf W = fun j => Math.hit (Math.softRow (rowOf W (j 0))) (labelOf W (j 0)) := by
  obtain ⟨h0, h1, h2, h3, h4, h5, h6, h7, h8, h9, h10, h11, h12, h13, h14, h15, h16, h17, h18, -, h20, h21, -, -⟩ :=
    List.forall_iff_forall_mem.mpr fun op ho => hW op (mem_ops_of_head ho)
  have m2 : get W (.of (T := ⟨S500000, .f32⟩) main_v2) = fun j => Finset.univ.sup (rowOf W (j 0)) := by
    rw [h4.binary, h3.unary, h2.nullary, h1.binary, h0.nullary, rowMax]
    funext j
    show max (Ideal.ofBits .f32 0xFF800000#32) (Finset.univ.sup (rowOf W (j 0))) = _
    rw [neg_inf, bot_sup_eq]
  have m6 : get W (.of (T := ⟨S500000x100, .f32⟩) main_v6)
      = fun i => Ideal.exp (rowOf W (i 0) (i 1) - Finset.univ.sup (rowOf W (i 0))) := by
    rw [h8.unary, h7.binary, h6.unary, h5.unary, m2]
    funext i
    rw [eq_ix2 i]; rfl
  have m10 : get W (.of (T := ⟨S500000x100, .f32⟩) main_v10) = fun i => Math.softRow (rowOf W (i 0)) (i 1) := by
    rw [h13.binary, h12.unary, h11.unary, h10.binary, h9.nullary, rowSum, m6]; rfl
  constructor
  · have := h15.binary
    rw [h14.nullary, rowMax, m10] at this
    exact this
  · funext j
    obtain ⟨k, hk, e⟩ := rowArg (fun i => Math.softRow (rowOf W (i 0)) (i 1)) j
    have e' : get W (.of (T := ⟨S500000, .i32⟩) main_v12) j = BitVec.ofNat 32 k.val := by
      rw [h20.quaternary, h18.nullary, h17.nullary, h16.nullary, m10]; exact e
    rw [← Math.hit_word hk, ← e', accOf, h21.binary]
    rw [eq_ix1 j]; rfl

end Cert.Proof.Ref

end
-- ==== Proof.Algebraic.lean ====
/-  The kernel's result and the reference's are one number. -/
module

public import proofs.«01_k».proof.Defs
public import proofs.«01_k».proof.Proof.Kernel.Value
public import proofs.«01_k».proof.Proof.Math.Row
public import proofs.«01_k».proof.Proof.Reference.Bins
public import proofs.«01_k».proof.Proof.Reference.Head

@[expose] public section

noncomputable section

namespace Cert.Proof

open Idealize.ShloMosaic Idealize.ShloMosaic.TcCoe Idealize.SL.Sem

/-- Renaming the rows does not change the error. -/
theorem ece_rename {ι κ : Type} [Fintype ι] [Fintype κ] (e : ι ≃ κ) (conf acc : κ → EReal) :
    Math.ece (fun i => conf (e i)) (fun i => acc (e i)) = Math.ece conf acc := by
  unfold Math.ece
  refine Finset.sum_congr rfl fun b _ => ?_
  rw [e.sum_comp fun r => Math.bin b (conf r), e.sum_comp fun r => acc r * Math.bin b (conf r),
    e.sum_comp fun r => conf r * Math.bin b (conf r)]

/-- An index of the reference's rows is a row number. -/
def rowEquiv : Cert.ReferenceIdeal.S500000.Idx ≃ Fin 500000 where
  toFun j := j 0
  invFun n := ValueIdx.ix1 n
  left_inv j := (ValueIdx.eq_ix1 j).symm
  right_inv _ := rfl

/-- A row of the reference's logits, read off the buffer's contents. -/
theorem rowOf_eq (W : Valuation Cert.ReferenceIdeal.τ Cert.ReferenceIdeal.sig (Elt Ideal)) (n : Fin 500000) (k : Fin 100) :
    Ref.rowOf W n k = W (Proc.devRef .tc Cert.ReferenceIdeal.main_arg0) (ValueIdx.ix2 n k) := rfl

/-- A label of the reference, read off the buffer's contents. -/
theorem labelOf_eq (W : Valuation Cert.ReferenceIdeal.τ Cert.ReferenceIdeal.sig (Elt Ideal)) (n : Fin 500000) :
    Ref.labelOf W n = W (Proc.devRef .tc Cert.ReferenceIdeal.main_arg1) (ValueIdx.ix1 n) := rfl

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- On the same logits both sides read the same rows. -/
theorem rows_agree (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) (n : Fin 500000) :
    Ref.rowOf (Ref.final m' c) n = Ker.rowN m c n.val := by
  funext k
  rw [rowOf_eq, Ref.final_arg0, h]
  have e3 : Ker.rowN m c n.val k
      = m ((c.tc : Thread Cert.KernelIdeal.nD Cert.KernelIdeal.τ).loc Cert.KernelIdeal.main_arg0) (ValueIdx.ix2 n k) :=
    dif_pos n.isLt
  exact e3.symm

/-- On the same labels both sides read the same label of a row. -/
theorem labels_agree (h : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) (n : Fin 500000) :
    Ref.labelOf (Ref.final m' c) n = Ker.labelN m c n.val := by
  rw [labelOf_eq, Ref.final_arg1, h]
  have e3 : Ker.labelN m c n.val
      = m ((c.tc : Thread Cert.KernelIdeal.nD Cert.KernelIdeal.τ).loc Cert.KernelIdeal.main_arg1) (ValueIdx.ix1 n) :=
    dif_pos n.isLt
  exact e3.symm

/-- The reference's result is the kernel's. -/
theorem reference_total
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Math.ece (Ref.confOf (Ref.final m' c)) (Ref.accOf (Ref.final m' c)) = Ker.total m c := by
  rw [(Ref.head_value (Ref.final_holds m' c)).1, (Ref.head_value (Ref.final_holds m' c)).2]
  refine (ece_rename rowEquiv (fun n => Math.confR (Ref.rowOf (Ref.final m' c) n))
    (fun n => Math.hit (Math.softRow (Ref.rowOf (Ref.final m' c) n)) (Ref.labelOf (Ref.final m' c) n))).trans ?_
  rw [Math.ece_eq (Ref.rowOf (Ref.final m' c)) (Ref.labelOf (Ref.final m' c))]
  simp only [rows_agree m m' c h0, labels_agree m m' c h1]
  rfl

end

/-- From the same arguments the kernel and the reference leave the same result. -/
theorem algebraic : Cert.algebraic_KernelIdeal_ReferenceIdeal
    (hKernelIdeal := Cert.KernelIdeal.Gen.facts) (hReferenceIdeal := Cert.ReferenceIdeal.Gen.facts) :=
  fun m g m' g' _ hm => ⟨fun c _ => Ker.total m c, Ker.run m g,
    (θ_run _ _ _).mono (fun _ h c => ⟨(h c Cert.ReferenceIdeal.main_v359).trans
        ((Ref.result_value (Ref.final_holds m' c)).trans (funext fun _ => reference_total m m' c (hm c).1 (hm c).2)),
      (h c Cert.ReferenceIdeal.main_arg0).trans (Ref.final_arg0 m' c), (h c Cert.ReferenceIdeal.main_arg1).trans (Ref.final_arg1 m' c)⟩)
      (Ref.run m' g')⟩

end Cert.Proof

end
-- ==== Proof.lean ====
/-  The certificate: the frames of the three programs, the idealization, and the equality of the results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Reference.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- All the claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Ref.frame m ρ,
  trivial, algebraic⟩

end Cert.Proof

end
